-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x8192x2048 : Shape := ⟨3, ![3, 8192, 2048]⟩
abbrev S2048x8192 : Shape := ⟨2, ![2048, 8192]⟩
abbrev S8192 : Shape := ⟨1, ![8192]⟩
abbrev S3x8192x8192 : Shape := ⟨3, ![3, 8192, 8192]⟩
abbrev S24576x2048 : Shape := ⟨2, ![24576, 2048]⟩
abbrev S1x8192 : Shape := ⟨2, ![1, 8192]⟩
abbrev S24576x8192 : Shape := ⟨2, ![24576, 8192]⟩
abbrev S3072x8x8192 : Shape := ⟨3, ![3072, 8, 8192]⟩
abbrev S192x128 : Shape := ⟨2, ![192, 128]⟩
abbrev S512x2048 : Shape := ⟨2, ![512, 2048]⟩
abbrev S512x8192 : Shape := ⟨2, ![512, 8192]⟩
abbrev S64x8x8192 : Shape := ⟨3, ![64, 8, 8192]⟩
abbrev S2x512x2048 : Shape := ⟨3, ![2, 512, 2048]⟩
abbrev S2x512x128 : Shape := ⟨3, ![2, 512, 128]⟩
abbrev S32x2048 : Shape := ⟨2, ![32, 2048]⟩
abbrev S32 : Shape := ⟨1, ![32]⟩
abbrev S32x1 : Shape := ⟨2, ![32, 1]⟩
abbrev S1x256 : Shape := ⟨2, ![1, 256]⟩
abbrev S32x256 : Shape := ⟨2, ![32, 256]⟩
abbrev S1x32x2048 : Shape := ⟨3, ![1, 32, 2048]⟩
abbrev S32x128 : Shape := ⟨2, ![32, 128]⟩
abbrev S1x32x128 : Shape := ⟨3, ![1, 32, 128]⟩
abbrev S1x128x128 : Shape := ⟨3, ![1, 128, 128]⟩
abbrev S128x128 : Shape := ⟨2, ![128, 128]⟩
abbrev S1x128 : Shape := ⟨2, ![1, 128]⟩
abbrev S4x128 : Shape := ⟨2, ![4, 128]⟩
abbrev S1x512x2048 : Shape := ⟨3, ![1, 512, 2048]⟩
abbrev S2048x512 : Shape := ⟨2, ![2048, 512]⟩
abbrev S512x512 : Shape := ⟨2, ![512, 512]⟩
abbrev S1x512x128 : Shape := ⟨3, ![1, 512, 128]⟩
abbrev S512x128 : Shape := ⟨2, ![512, 128]⟩
abbrev S1x512 : Shape := ⟨2, ![1, 512]⟩
abbrev S64x8x512 : Shape := ⟨3, ![64, 8, 512]⟩

abbrev nBuf : Space → Nat
  | .hbm => 10
  | .vmem => 13
  | .smem => 0
  | _ => 0

abbrev bufTy : (tb : Table) → Fin (tcTables nBuf tb) → BufTy
  | .hbm, ⟨0, _⟩ => ⟨S3x8192x2048, .bf16⟩
  | .hbm, ⟨1, _⟩ => ⟨S2048x8192, .fp8e4m3⟩
  | .hbm, ⟨2, _⟩ => ⟨S8192, .f32⟩
  | .hbm, ⟨3, _⟩ => ⟨S3x8192x8192, .bf16⟩
  | .hbm, ⟨4, _⟩ => ⟨S24576x2048, .bf16⟩
  | .hbm, ⟨5, _⟩ => ⟨S1x8192, .f32⟩
  | .hbm, ⟨6, _⟩ => ⟨S24576x8192, .bf16⟩
  | .hbm, ⟨7, _⟩ => ⟨S3072x8x8192, .bf16⟩
  | .hbm, ⟨8, _⟩ => ⟨S24576x2048, .fp8e4m3⟩
  | .hbm, ⟨9, _⟩ => ⟨S192x128, .f32⟩
  | .local _ .vmem, ⟨0, _⟩ => ⟨S512x2048, .bf16⟩
  | .local _ .vmem, ⟨1, _⟩ => ⟨S512x2048, .bf16⟩
  | .local _ .vmem, ⟨2, _⟩ => ⟨S2048x8192, .fp8e4m3⟩
  | .local _ .vmem, ⟨3, _⟩ => ⟨S1x8192, .f32⟩
  | .local _ .vmem, ⟨4, _⟩ => ⟨S512x8192, .bf16⟩
  | .local _ .vmem, ⟨5, _⟩ => ⟨S512x8192, .bf16⟩
  | .local _ .vmem, ⟨6, _⟩ => ⟨S64x8x8192, .bf16⟩
  | .local _ .vmem, ⟨7, _⟩ => ⟨S64x8x8192, .bf16⟩
  | .local _ .vmem, ⟨8, _⟩ => ⟨S512x2048, .fp8e4m3⟩
  | .local _ .vmem, ⟨9, _⟩ => ⟨S512x2048, .fp8e4m3⟩
  | .local _ .vmem, ⟨10, _⟩ => ⟨S192x128, .f32⟩
  | .local _ .vmem, ⟨11, _⟩ => ⟨S2x512x2048, .fp8e4m3⟩
  | .local _ .vmem, ⟨12, _⟩ => ⟨S2x512x128, .f32⟩
  | _, _ => ⟨S3x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![49], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg0 : BitVec 32 := BitVec.ofNat 32 (i 0).val
  let c2_i32 : BitVec 32 := 2#32
  let v11 : BitVec 32 := Scalar.remsi arg0 c2_i32
  let v71 : Index := Scalar.indexCast v11
  let c0_23 : Index := 0#32
  let c0_24 : Index := 0#32
  ![v71.toNat, 0, 0]
def k0_off2 (i : grid0.Coords) : Fin 3 → Nat :=
  let arg0 : BitVec 32 := BitVec.ofNat 32 (i 0).val
  let c2_i32 : BitVec 32 := 2#32
  let v11 : BitVec 32 := Scalar.remsi arg0 c2_i32
  let v77 : Index := Scalar.indexCast v11
  let c0_25 : Index := 0#32
  let c0_26 : Index := 0#32
  ![v77.toNat, 0, 0]
def k0_off3 (i : grid0.Coords) : Fin 3 → Nat :=
  let arg0 : BitVec 32 := BitVec.ofNat 32 (i 0).val
  let c2_i32 : BitVec 32 := 2#32
  let v11 : BitVec 32 := Scalar.remsi arg0 c2_i32
  let v140 : Index := Scalar.indexCast v11
  let c32_51 : Index := 32#32
  let c0_52 : Index := 0#32
  ![v140.toNat, 32, 0]
def k0_off4 (i : grid0.Coords) : Fin 3 → Nat :=
  let arg0 : BitVec 32 := BitVec.ofNat 32 (i 0).val
  let c2_i32 : BitVec 32 := 2#32
  let v11 : BitVec 32 := Scalar.remsi arg0 c2_i32
  let v146 : Index := Scalar.indexCast v11
  let c32_53 : Index := 32#32
  let c0_54 : Index := 0#32
  ![v146.toNat, 32, 0]
def k0_off5 (i : grid0.Coords) : Fin 3 → Nat :=
  let arg0 : BitVec 32 := BitVec.ofNat 32 (i 0).val
  let c2_i32 : BitVec 32 := 2#32
  let v11 : BitVec 32 := Scalar.remsi arg0 c2_i32
  let v209 : Index := Scalar.indexCast v11
  let c64_79 : Index := 64#32
  let c0_80 : Index := 0#32
  ![v209.toNat, 64, 0]
def k0_off6 (i : grid0.Coords) : Fin 3 → Nat :=
  let arg0 : BitVec 32 := BitVec.ofNat 32 (i 0).val
  let c2_i32 : BitVec 32 := 2#32
  let v11 : BitVec 32 := Scalar.remsi arg0 c2_i32
  let v215 : Index := Scalar.indexCast v11
  let c64_81 : Index := 64#32
  let c0_82 : Index := 0#32
  ![v215.toNat, 64, 0]
def k0_off7 (i : grid0.Coords) : Fin 3 → Nat :=
  let arg0 : BitVec 32 := BitVec.ofNat 32 (i 0).val
  let c2_i32 : BitVec 32 := 2#32
  let v11 : BitVec 32 := Scalar.remsi arg0 c2_i32
  let v278 : Index := Scalar.indexCast v11
  let c96_107 : Index := 96#32
  let c0_108 : Index := 0#32
  ![v278.toNat, 96, 0]
def k0_off8 (i : grid0.Coords) : Fin 3 → Nat :=
  let arg0 : BitVec 32 := BitVec.ofNat 32 (i 0).val
  let c2_i32 : BitVec 32 := 2#32
  let v11 : BitVec 32 := Scalar.remsi arg0 c2_i32
  let v284 : Index := Scalar.indexCast v11
  let c96_109 : Index := 96#32
  let c0_110 : Index := 0#32
  ![v284.toNat, 96, 0]
def k0_off9 (i : grid0.Coords) : Fin 3 → Nat :=
  let arg0 : BitVec 32 := BitVec.ofNat 32 (i 0).val
  let c2_i32 : BitVec 32 := 2#32
  let v11 : BitVec 32 := Scalar.remsi arg0 c2_i32
  let v347 : Index := Scalar.indexCast v11
  let c128_135 : Index := 128#32
  let c0_136 : Index := 0#32
  ![v347.toNat, 128, 0]
def k0_off10 (i : grid0.Coords) : Fin 3 → Nat :=
  let arg0 : BitVec 32 := BitVec.ofNat 32 (i 0).val
  let c2_i32 : BitVec 32 := 2#32
  let v11 : BitVec 32 := Scalar.remsi arg0 c2_i32
  let v353 : Index := Scalar.indexCast v11
  let c128_137 : Index := 128#32
  let c0_138 : Index := 0#32
  ![v353.toNat, 128, 0]
def k0_off11 (i : grid0.Coords) : Fin 3 → Nat :=
  let arg0 : BitVec 32 := BitVec.ofNat 32 (i 0).val
  let c2_i32 : BitVec 32 := 2#32
  let v11 : BitVec 32 := Scalar.remsi arg0 c2_i32
  let v416 : Index := Scalar.indexCast v11
  let c160_163 : Index := 160#32
  let c0_164 : Index := 0#32
  ![v416.toNat, 160, 0]
def k0_off12 (i : grid0.Coords) : Fin 3 → Nat :=
  let arg0 : BitVec 32 := BitVec.ofNat 32 (i 0).val
  let c2_i32 : BitVec 32 := 2#32
  let v11 : BitVec 32 := Scalar.remsi arg0 c2_i32
  let v422 : Index := Scalar.indexCast v11
  let c160_165 : Index := 160#32
  let c0_166 : Index := 0#32
  ![v422.toNat, 160, 0]
def k0_off13 (i : grid0.Coords) : Fin 3 → Nat :=
  let arg0 : BitVec 32 := BitVec.ofNat 32 (i 0).val
  let c2_i32 : BitVec 32 := 2#32
  let v11 : BitVec 32 := Scalar.remsi arg0 c2_i32
  let v485 : Index := Scalar.indexCast v11
  let c192_191 : Index := 192#32
  let c0_192 : Index := 0#32
  ![v485.toNat, 192, 0]
def k0_off14 (i : grid0.Coords) : Fin 3 → Nat :=
  let arg0 : BitVec 32 := BitVec.ofNat 32 (i 0).val
  let c2_i32 : BitVec 32 := 2#32
  let v11 : BitVec 32 := Scalar.remsi arg0 c2_i32
  let v491 : Index := Scalar.indexCast v11
  let c192_193 : Index := 192#32
  let c0_194 : Index := 0#32
  ![v491.toNat, 192, 0]
def k0_off15 (i : grid0.Coords) : Fin 3 → Nat :=
  let arg0 : BitVec 32 := BitVec.ofNat 32 (i 0).val
  let c2_i32 : BitVec 32 := 2#32
  let v11 : BitVec 32 := Scalar.remsi arg0 c2_i32
  let v554 : Index := Scalar.indexCast v11
  let c224_219 : Index := 224#32
  let c0_220 : Index := 0#32
  ![v554.toNat, 224, 0]
def k0_off16 (i : grid0.Coords) : Fin 3 → Nat :=
  let arg0 : BitVec 32 := BitVec.ofNat 32 (i 0).val
  let c2_i32 : BitVec 32 := 2#32
  let v11 : BitVec 32 := Scalar.remsi arg0 c2_i32
  let v560 : Index := Scalar.indexCast v11
  let c224_221 : Index := 224#32
  let c0_222 : Index := 0#32
  ![v560.toNat, 224, 0]
def k0_off17 (i : grid0.Coords) : Fin 3 → Nat :=
  let arg0 : BitVec 32 := BitVec.ofNat 32 (i 0).val
  let c2_i32 : BitVec 32 := 2#32
  let v11 : BitVec 32 := Scalar.remsi arg0 c2_i32
  let v623 : Index := Scalar.indexCast v11
  let c256_247 : Index := 256#32
  let c0_248 : Index := 0#32
  ![v623.toNat, 256, 0]
def k0_off18 (i : grid0.Coords) : Fin 3 → Nat :=
  let arg0 : BitVec 32 := BitVec.ofNat 32 (i 0).val
  let c2_i32 : BitVec 32 := 2#32
  let v11 : BitVec 32 := Scalar.remsi arg0 c2_i32
  let v629 : Index := Scalar.indexCast v11
  let c256_249 : Index := 256#32
  let c0_250 : Index := 0#32
  ![v629.toNat, 256, 0]
def k0_off19 (i : grid0.Coords) : Fin 3 → Nat :=
  let arg0 : BitVec 32 := BitVec.ofNat 32 (i 0).val
  let c2_i32 : BitVec 32 := 2#32
  let v11 : BitVec 32 := Scalar.remsi arg0 c2_i32
  let v692 : Index := Scalar.indexCast v11
  let c288_275 : Index := 288#32
  let c0_276 : Index := 0#32
  ![v692.toNat, 288, 0]
def k0_off20 (i : grid0.Coords) : Fin 3 → Nat :=
  let arg0 : BitVec 32 := BitVec.ofNat 32 (i 0).val
  let c2_i32 : BitVec 32 := 2#32
  let v11 : BitVec 32 := Scalar.remsi arg0 c2_i32
  let v698 : Index := Scalar.indexCast v11
  let c288_277 : Index := 288#32
  let c0_278 : Index := 0#32
  ![v698.toNat, 288, 0]
def k0_off21 (i : grid0.Coords) : Fin 3 → Nat :=
  let arg0 : BitVec 32 := BitVec.ofNat 32 (i 0).val
  let c2_i32 : BitVec 32 := 2#32
  let v11 : BitVec 32 := Scalar.remsi arg0 c2_i32
  let v761 : Index := Scalar.indexCast v11
  let c320_303 : Index := 320#32
  let c0_304 : Index := 0#32
  ![v761.toNat, 320, 0]
def k0_off22 (i : grid0.Coords) : Fin 3 → Nat :=
  let arg0 : BitVec 32 := BitVec.ofNat 32 (i 0).val
  let c2_i32 : BitVec 32 := 2#32
  let v11 : BitVec 32 := Scalar.remsi arg0 c2_i32
  let v767 : Index := Scalar.indexCast v11
  let c320_305 : Index := 320#32
  let c0_306 : Index := 0#32
  ![v767.toNat, 320, 0]
def k0_off23 (i : grid0.Coords) : Fin 3 → Nat :=
  let arg0 : BitVec 32 := BitVec.ofNat 32 (i 0).val
  let c2_i32 : BitVec 32 := 2#32
  let v11 : BitVec 32 := Scalar.remsi arg0 c2_i32
  let v830 : Index := Scalar.indexCast v11
  let c352_331 : Index := 352#32
  let c0_332 : Index := 0#32
  ![v830.toNat, 352, 0]
def k0_off24 (i : grid0.Coords) : Fin 3 → Nat :=
  let arg0 : BitVec 32 := BitVec.ofNat 32 (i 0).val
  let c2_i32 : BitVec 32 := 2#32
  let v11 : BitVec 32 := Scalar.remsi arg0 c2_i32
  let v836 : Index := Scalar.indexCast v11
  let c352_333 : Index := 352#32
  let c0_334 : Index := 0#32
  ![v836.toNat, 352, 0]
def k0_off25 (i : grid0.Coords) : Fin 3 → Nat :=
  let arg0 : BitVec 32 := BitVec.ofNat 32 (i 0).val
  let c2_i32 : BitVec 32 := 2#32
  let v11 : BitVec 32 := Scalar.remsi arg0 c2_i32
  let v899 : Index := Scalar.indexCast v11
  let c384_359 : Index := 384#32
  let c0_360 : Index := 0#32
  ![v899.toNat, 384, 0]
def k0_off26 (i : grid0.Coords) : Fin 3 → Nat :=
  let arg0 : BitVec 32 := BitVec.ofNat 32 (i 0).val
  let c2_i32 : BitVec 32 := 2#32
  let v11 : BitVec 32 := Scalar.remsi arg0 c2_i32
  let v905 : Index := Scalar.indexCast v11
  let c384_361 : Index := 384#32
  let c0_362 : Index := 0#32
  ![v905.toNat, 384, 0]
def k0_off27 (i : grid0.Coords) : Fin 3 → Nat :=
  let arg0 : BitVec 32 := BitVec.ofNat 32 (i 0).val
  let c2_i32 : BitVec 32 := 2#32
  let v11 : BitVec 32 := Scalar.remsi arg0 c2_i32
  let v968 : Index := Scalar.indexCast v11
  let c416_387 : Index := 416#32
  let c0_388 : Index := 0#32
  ![v968.toNat, 416, 0]
def k0_off28 (i : grid0.Coords) : Fin 3 → Nat :=
  let arg0 : BitVec 32 := BitVec.ofNat 32 (i 0).val
  let c2_i32 : BitVec 32 := 2#32
  let v11 : BitVec 32 := Scalar.remsi arg0 c2_i32
  let v974 : Index := Scalar.indexCast v11
  let c416_389 : Index := 416#32
  let c0_390 : Index := 0#32
  ![v974.toNat, 416, 0]
def k0_off29 (i : grid0.Coords) : Fin 3 → Nat :=
  let arg0 : BitVec 32 := BitVec.ofNat 32 (i 0).val
  let c2_i32 : BitVec 32 := 2#32
  let v11 : BitVec 32 := Scalar.remsi arg0 c2_i32
  let v1037 : Index := Scalar.indexCast v11
  let c448_415 : Index := 448#32
  let c0_416 : Index := 0#32
  ![v1037.toNat, 448, 0]
def k0_off30 (i : grid0.Coords) : Fin 3 → Nat :=
  let arg0 : BitVec 32 := BitVec.ofNat 32 (i 0).val
  let c2_i32 : BitVec 32 := 2#32
  let v11 : BitVec 32 := Scalar.remsi arg0 c2_i32
  let v1043 : Index := Scalar.indexCast v11
  let c448_417 : Index := 448#32
  let c0_418 : Index := 0#32
  ![v1043.toNat, 448, 0]
def k0_off31 (i : grid0.Coords) : Fin 3 → Nat :=
  let arg0 : BitVec 32 := BitVec.ofNat 32 (i 0).val
  let c2_i32 : BitVec 32 := 2#32
  let v11 : BitVec 32 := Scalar.remsi arg0 c2_i32
  let v1106 : Index := Scalar.indexCast v11
  let c480_443 : Index := 480#32
  let c0_444 : Index := 0#32
  ![v1106.toNat, 480, 0]
def k0_off32 (i : grid0.Coords) : Fin 3 → Nat :=
  let arg0 : BitVec 32 := BitVec.ofNat 32 (i 0).val
  let c2_i32 : BitVec 32 := 2#32
  let v11 : BitVec 32 := Scalar.remsi arg0 c2_i32
  let v1112 : Index := Scalar.indexCast v11
  let c480_445 : Index := 480#32
  let c0_446 : Index := 0#32
  ![v1112.toNat, 480, 0]
def k0_off33 (i : grid0.Coords) : Fin 3 → Nat :=
  let arg0 : BitVec 32 := BitVec.ofNat 32 (i 0).val
  let c2_i32 : BitVec 32 := 2#32
  let v11 : BitVec 32 := Scalar.remsi arg0 c2_i32
  let v1116 : Index := Scalar.indexCast v11
  let c0_447 : Index := 0#32
  let c0_448 : Index := 0#32
  ![v1116.toNat, 0, 0]
def k0_off34 (i : grid0.Coords) : Fin 3 → Nat :=
  let arg0 : BitVec 32 := BitVec.ofNat 32 (i 0).val
  let c2_i32 : BitVec 32 := 2#32
  let v11 : BitVec 32 := Scalar.remsi arg0 c2_i32
  let v1121 : Index := Scalar.indexCast v11
  let c128_449 : Index := 128#32
  let c0_450 : Index := 0#32
  ![v1121.toNat, 128, 0]
def k0_off35 (i : grid0.Coords) : Fin 3 → Nat :=
  let arg0 : BitVec 32 := BitVec.ofNat 32 (i 0).val
  let c2_i32 : BitVec 32 := 2#32
  let v11 : BitVec 32 := Scalar.remsi arg0 c2_i32
  let v1126 : Index := Scalar.indexCast v11
  let c256_451 : Index := 256#32
  let c0_452 : Index := 0#32
  ![v1126.toNat, 256, 0]
def k0_off36 (i : grid0.Coords) : Fin 3 → Nat :=
  let arg0 : BitVec 32 := BitVec.ofNat 32 (i 0).val
  let c2_i32 : BitVec 32 := 2#32
  let v11 : BitVec 32 := Scalar.remsi arg0 c2_i32
  let v1131 : Index := Scalar.indexCast v11
  let c384_453 : Index := 384#32
  let c0_454 : Index := 0#32
  ![v1131.toNat, 384, 0]
def k0_off37 (i : grid0.Coords) : Fin 2 → Nat :=
  let arg0 : BitVec 32 := BitVec.ofNat 32 (i 0).val
  let c4_i32 : BitVec 32 := 4#32
  let v1137 : BitVec 32 := Scalar.muli arg0 c4_i32
  let v1138 : Index := Scalar.indexCast v1137
  let c0_455 : Index := 0#32
  ![v1138.toNat, 0]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c48_i32 : BitVec 32 := 48#32
  let v4 : BitVec 1 := Scalar.cmpi .slt arg0 c48_i32
  let v5 : BitVec 1 := Scalar.andi v3 v4
  let v6 : BitVec 32 := Scalar.extui v5
  let c0_i32_2 : BitVec 32 := 0#32
  let v7 : BitVec 1 := Scalar.cmpi .ne v6 c0_i32_2
  v7

def k0_off38 (i : grid0.Coords) : Fin 3 → Nat :=
  let c1_i32 : BitVec 32 := 1#32
  let arg0 : BitVec 32 := BitVec.ofNat 32 (i 0).val
  let c2_i32 : BitVec 32 := 2#32
  let v11 : BitVec 32 := Scalar.remsi arg0 c2_i32
  let v12 : BitVec 32 := Scalar.subi c1_i32 v11
  let v13 : Index := Scalar.indexCast v12
  let c0 : Index := 0#32
  let c0_5 : Index := 0#32
  ![v13.toNat, 0, 0]
def k0_off39 (i : grid0.Coords) : Fin 3 → Nat :=
  let c1_i32 : BitVec 32 := 1#32
  let arg0 : BitVec 32 := BitVec.ofNat 32 (i 0).val
  let c2_i32 : BitVec 32 := 2#32
  let v11 : BitVec 32 := Scalar.remsi arg0 c2_i32
  let v12 : BitVec 32 := Scalar.subi c1_i32 v11
  let v18 : Index := Scalar.indexCast v12
  let c0_8 : Index := 0#32
  let c0_9 : Index := 0#32
  ![v18.toNat, 0, 0]
def k0_off40 (i : grid0.Coords) : Fin 3 → Nat :=
  let arg0 : BitVec 32 := BitVec.ofNat 32 (i 0).val
  let c2_i32 : BitVec 32 := 2#32
  let v11 : BitVec 32 := Scalar.remsi arg0 c2_i32
  let v93 : Index := Scalar.indexCast v11
  let c0_38 : Index := 0#32
  let c0_39 : Index := 0#32
  ![v93.toNat, 0, 0]
def k0_off41 (i : grid0.Coords) : Fin 3 → Nat :=
  let arg0 : BitVec 32 := BitVec.ofNat 32 (i 0).val
  let c2_i32 : BitVec 32 := 2#32
  let v11 : BitVec 32 := Scalar.remsi arg0 c2_i32
  let v99 : Index := Scalar.indexCast v11
  let c0_40 : Index := 0#32
  let c0_41 : Index := 0#32
  ![v99.toNat, 0, 0]
def k0_off42 (i : grid0.Coords) : Fin 3 → Nat :=
  let arg0 : BitVec 32 := BitVec.ofNat 32 (i 0).val
  let c2_i32 : BitVec 32 := 2#32
  let v11 : BitVec 32 := Scalar.remsi arg0 c2_i32
  let v183 : Index := Scalar.indexCast v11
  let c32_79 : Index := 32#32
  let c0_80 : Index := 0#32
  ![v183.toNat, 32, 0]
def k0_off43 (i : grid0.Coords) : Fin 3 → Nat :=
  let arg0 : BitVec 32 := BitVec.ofNat 32 (i 0).val
  let c2_i32 : BitVec 32 := 2#32
  let v11 : BitVec 32 := Scalar.remsi arg0 c2_i32
  let v189 : Index := Scalar.indexCast v11
  let c32_81 : Index := 32#32
  let c0_82 : Index := 0#32
  ![v189.toNat, 32, 0]
def k0_off44 (i : grid0.Coords) : Fin 3 → Nat :=
  let arg0 : BitVec 32 := BitVec.ofNat 32 (i 0).val
  let c2_i32 : BitVec 32 := 2#32
  let v11 : BitVec 32 := Scalar.remsi arg0 c2_i32
  let v273 : Index := Scalar.indexCast v11
  let c64_120 : Index := 64#32
  let c0_121 : Index := 0#32
  ![v273.toNat, 64, 0]
def k0_off45 (i : grid0.Coords) : Fin 3 → Nat :=
  let arg0 : BitVec 32 := BitVec.ofNat 32 (i 0).val
  let c2_i32 : BitVec 32 := 2#32
  let v11 : BitVec 32 := Scalar.remsi arg0 c2_i32
  let v279 : Index := Scalar.indexCast v11
  let c64_122 : Index := 64#32
  let c0_123 : Index := 0#32
  ![v279.toNat, 64, 0]
def k0_off46 (i : grid0.Coords) : Fin 3 → Nat :=
  let arg0 : BitVec 32 := BitVec.ofNat 32 (i 0).val
  let c2_i32 : BitVec 32 := 2#32
  let v11 : BitVec 32 := Scalar.remsi arg0 c2_i32
  let v363 : Index := Scalar.indexCast v11
  let c96_161 : Index := 96#32
  let c0_162 : Index := 0#32
  ![v363.toNat, 96, 0]
def k0_off47 (i : grid0.Coords) : Fin 3 → Nat :=
  let arg0 : BitVec 32 := BitVec.ofNat 32 (i 0).val
  let c2_i32 : BitVec 32 := 2#32
  let v11 : BitVec 32 := Scalar.remsi arg0 c2_i32
  let v369 : Index := Scalar.indexCast v11
  let c96_163 : Index := 96#32
  let c0_164 : Index := 0#32
  ![v369.toNat, 96, 0]
def k0_off48 (i : grid0.Coords) : Fin 3 → Nat :=
  let arg0 : BitVec 32 := BitVec.ofNat 32 (i 0).val
  let c2_i32 : BitVec 32 := 2#32
  let v11 : BitVec 32 := Scalar.remsi arg0 c2_i32
  let v453 : Index := Scalar.indexCast v11
  let c128_202 : Index := 128#32
  let c0_203 : Index := 0#32
  ![v453.toNat, 128, 0]
def k0_off49 (i : grid0.Coords) : Fin 3 → Nat :=
  let arg0 : BitVec 32 := BitVec.ofNat 32 (i 0).val
  let c2_i32 : BitVec 32 := 2#32
  let v11 : BitVec 32 := Scalar.remsi arg0 c2_i32
  let v459 : Index := Scalar.indexCast v11
  let c128_204 : Index := 128#32
  let c0_205 : Index := 0#32
  ![v459.toNat, 128, 0]
def k0_off50 (i : grid0.Coords) : Fin 3 → Nat :=
  let arg0 : BitVec 32 := BitVec.ofNat 32 (i 0).val
  let c2_i32 : BitVec 32 := 2#32
  let v11 : BitVec 32 := Scalar.remsi arg0 c2_i32
  let v543 : Index := Scalar.indexCast v11
  let c160_243 : Index := 160#32
  let c0_244 : Index := 0#32
  ![v543.toNat, 160, 0]
def k0_off51 (i : grid0.Coords) : Fin 3 → Nat :=
  let arg0 : BitVec 32 := BitVec.ofNat 32 (i 0).val
  let c2_i32 : BitVec 32 := 2#32
  let v11 : BitVec 32 := Scalar.remsi arg0 c2_i32
  let v549 : Index := Scalar.indexCast v11
  let c160_245 : Index := 160#32
  let c0_246 : Index := 0#32
  ![v549.toNat, 160, 0]
def k0_off52 (i : grid0.Coords) : Fin 3 → Nat :=
  let arg0 : BitVec 32 := BitVec.ofNat 32 (i 0).val
  let c2_i32 : BitVec 32 := 2#32
  let v11 : BitVec 32 := Scalar.remsi arg0 c2_i32
  let v633 : Index := Scalar.indexCast v11
  let c192_284 : Index := 192#32
  let c0_285 : Index := 0#32
  ![v633.toNat, 192, 0]
def k0_off53 (i : grid0.Coords) : Fin 3 → Nat :=
  let arg0 : BitVec 32 := BitVec.ofNat 32 (i 0).val
  let c2_i32 : BitVec 32 := 2#32
  let v11 : BitVec 32 := Scalar.remsi arg0 c2_i32
  let v639 : Index := Scalar.indexCast v11
  let c192_286 : Index := 192#32
  let c0_287 : Index := 0#32
  ![v639.toNat, 192, 0]
def k0_off54 (i : grid0.Coords) : Fin 3 → Nat :=
  let arg0 : BitVec 32 := BitVec.ofNat 32 (i 0).val
  let c2_i32 : BitVec 32 := 2#32
  let v11 : BitVec 32 := Scalar.remsi arg0 c2_i32
  let v723 : Index := Scalar.indexCast v11
  let c224_325 : Index := 224#32
  let c0_326 : Index := 0#32
  ![v723.toNat, 224, 0]
def k0_off55 (i : grid0.Coords) : Fin 3 → Nat :=
  let arg0 : BitVec 32 := BitVec.ofNat 32 (i 0).val
  let c2_i32 : BitVec 32 := 2#32
  let v11 : BitVec 32 := Scalar.remsi arg0 c2_i32
  let v729 : Index := Scalar.indexCast v11
  let c224_327 : Index := 224#32
  let c0_328 : Index := 0#32
  ![v729.toNat, 224, 0]
def k0_off56 (i : grid0.Coords) : Fin 3 → Nat :=
  let arg0 : BitVec 32 := BitVec.ofNat 32 (i 0).val
  let c2_i32 : BitVec 32 := 2#32
  let v11 : BitVec 32 := Scalar.remsi arg0 c2_i32
  let v813 : Index := Scalar.indexCast v11
  let c256_366 : Index := 256#32
  let c0_367 : Index := 0#32
  ![v813.toNat, 256, 0]
def k0_off57 (i : grid0.Coords) : Fin 3 → Nat :=
  let arg0 : BitVec 32 := BitVec.ofNat 32 (i 0).val
  let c2_i32 : BitVec 32 := 2#32
  let v11 : BitVec 32 := Scalar.remsi arg0 c2_i32
  let v819 : Index := Scalar.indexCast v11
  let c256_368 : Index := 256#32
  let c0_369 : Index := 0#32
  ![v819.toNat, 256, 0]
def k0_off58 (i : grid0.Coords) : Fin 3 → Nat :=
  let arg0 : BitVec 32 := BitVec.ofNat 32 (i 0).val
  let c2_i32 : BitVec 32 := 2#32
  let v11 : BitVec 32 := Scalar.remsi arg0 c2_i32
  let v903 : Index := Scalar.indexCast v11
  let c288_407 : Index := 288#32
  let c0_408 : Index := 0#32
  ![v903.toNat, 288, 0]
def k0_off59 (i : grid0.Coords) : Fin 3 → Nat :=
  let arg0 : BitVec 32 := BitVec.ofNat 32 (i 0).val
  let c2_i32 : BitVec 32 := 2#32
  let v11 : BitVec 32 := Scalar.remsi arg0 c2_i32
  let v909 : Index := Scalar.indexCast v11
  let c288_409 : Index := 288#32
  let c0_410 : Index := 0#32
  ![v909.toNat, 288, 0]
def k0_off60 (i : grid0.Coords) : Fin 3 → Nat :=
  let arg0 : BitVec 32 := BitVec.ofNat 32 (i 0).val
  let c2_i32 : BitVec 32 := 2#32
  let v11 : BitVec 32 := Scalar.remsi arg0 c2_i32
  let v993 : Index := Scalar.indexCast v11
  let c320_448 : Index := 320#32
  let c0_449 : Index := 0#32
  ![v993.toNat, 320, 0]
def k0_off61 (i : grid0.Coords) : Fin 3 → Nat :=
  let arg0 : BitVec 32 := BitVec.ofNat 32 (i 0).val
  let c2_i32 : BitVec 32 := 2#32
  let v11 : BitVec 32 := Scalar.remsi arg0 c2_i32
  let v999 : Index := Scalar.indexCast v11
  let c320_450 : Index := 320#32
  let c0_451 : Index := 0#32
  ![v999.toNat, 320, 0]
def k0_off62 (i : grid0.Coords) : Fin 3 → Nat :=
  let arg0 : BitVec 32 := BitVec.ofNat 32 (i 0).val
  let c2_i32 : BitVec 32 := 2#32
  let v11 : BitVec 32 := Scalar.remsi arg0 c2_i32
  let v1083 : Index := Scalar.indexCast v11
  let c352_489 : Index := 352#32
  let c0_490 : Index := 0#32
  ![v1083.toNat, 352, 0]
def k0_off63 (i : grid0.Coords) : Fin 3 → Nat :=
  let arg0 : BitVec 32 := BitVec.ofNat 32 (i 0).val
  let c2_i32 : BitVec 32 := 2#32
  let v11 : BitVec 32 := Scalar.remsi arg0 c2_i32
  let v1089 : Index := Scalar.indexCast v11
  let c352_491 : Index := 352#32
  let c0_492 : Index := 0#32
  ![v1089.toNat, 352, 0]
def k0_off64 (i : grid0.Coords) : Fin 3 → Nat :=
  let arg0 : BitVec 32 := BitVec.ofNat 32 (i 0).val
  let c2_i32 : BitVec 32 := 2#32
  let v11 : BitVec 32 := Scalar.remsi arg0 c2_i32
  let v1173 : Index := Scalar.indexCast v11
  let c384_530 : Index := 384#32
  let c0_531 : Index := 0#32
  ![v1173.toNat, 384, 0]
def k0_off65 (i : grid0.Coords) : Fin 3 → Nat :=
  let arg0 : BitVec 32 := BitVec.ofNat 32 (i 0).val
  let c2_i32 : BitVec 32 := 2#32
  let v11 : BitVec 32 := Scalar.remsi arg0 c2_i32
  let v1179 : Index := Scalar.indexCast v11
  let c384_532 : Index := 384#32
  let c0_533 : Index := 0#32
  ![v1179.toNat, 384, 0]
def k0_off66 (i : grid0.Coords) : Fin 3 → Nat :=
  let arg0 : BitVec 32 := BitVec.ofNat 32 (i 0).val
  let c2_i32 : BitVec 32 := 2#32
  let v11 : BitVec 32 := Scalar.remsi arg0 c2_i32
  let v1263 : Index := Scalar.indexCast v11
  let c416_571 : Index := 416#32
  let c0_572 : Index := 0#32
  ![v1263.toNat, 416, 0]
def k0_off67 (i : grid0.Coords) : Fin 3 → Nat :=
  let arg0 : BitVec 32 := BitVec.ofNat 32 (i 0).val
  let c2_i32 : BitVec 32 := 2#32
  let v11 : BitVec 32 := Scalar.remsi arg0 c2_i32
  let v1269 : Index := Scalar.indexCast v11
  let c416_573 : Index := 416#32
  let c0_574 : Index := 0#32
  ![v1269.toNat, 416, 0]
def k0_off68 (i : grid0.Coords) : Fin 3 → Nat :=
  let arg0 : BitVec 32 := BitVec.ofNat 32 (i 0).val
  let c2_i32 : BitVec 32 := 2#32
  let v11 : BitVec 32 := Scalar.remsi arg0 c2_i32
  let v1353 : Index := Scalar.indexCast v11
  let c448_612 : Index := 448#32
  let c0_613 : Index := 0#32
  ![v1353.toNat, 448, 0]
def k0_off69 (i : grid0.Coords) : Fin 3 → Nat :=
  let arg0 : BitVec 32 := BitVec.ofNat 32 (i 0).val
  let c2_i32 : BitVec 32 := 2#32
  let v11 : BitVec 32 := Scalar.remsi arg0 c2_i32
  let v1359 : Index := Scalar.indexCast v11
  let c448_614 : Index := 448#32
  let c0_615 : Index := 0#32
  ![v1359.toNat, 448, 0]
def k0_off70 (i : grid0.Coords) : Fin 3 → Nat :=
  let arg0 : BitVec 32 := BitVec.ofNat 32 (i 0).val
  let c2_i32 : BitVec 32 := 2#32
  let v11 : BitVec 32 := Scalar.remsi arg0 c2_i32
  let v1443 : Index := Scalar.indexCast v11
  let c480_653 : Index := 480#32
  let c0_654 : Index := 0#32
  ![v1443.toNat, 480, 0]
def k0_off71 (i : grid0.Coords) : Fin 3 → Nat :=
  let arg0 : BitVec 32 := BitVec.ofNat 32 (i 0).val
  let c2_i32 : BitVec 32 := 2#32
  let v11 : BitVec 32 := Scalar.remsi arg0 c2_i32
  let v1449 : Index := Scalar.indexCast v11
  let c480_655 : Index := 480#32
  let c0_656 : Index := 0#32
  ![v1449.toNat, 480, 0]
def k0_off72 (i : grid0.Coords) : Fin 3 → Nat :=
  let arg0 : BitVec 32 := BitVec.ofNat 32 (i 0).val
  let c2_i32 : BitVec 32 := 2#32
  let v11 : BitVec 32 := Scalar.remsi arg0 c2_i32
  let v1453 : Index := Scalar.indexCast v11
  let c0_657 : Index := 0#32
  let c0_658 : Index := 0#32
  ![v1453.toNat, 0, 0]
def k0_off73 (i : grid0.Coords) : Fin 3 → Nat :=
  let arg0 : BitVec 32 := BitVec.ofNat 32 (i 0).val
  let c2_i32 : BitVec 32 := 2#32
  let v11 : BitVec 32 := Scalar.remsi arg0 c2_i32
  let v1458 : Index := Scalar.indexCast v11
  let c128_659 : Index := 128#32
  let c0_660 : Index := 0#32
  ![v1458.toNat, 128, 0]
def k0_off74 (i : grid0.Coords) : Fin 3 → Nat :=
  let arg0 : BitVec 32 := BitVec.ofNat 32 (i 0).val
  let c2_i32 : BitVec 32 := 2#32
  let v11 : BitVec 32 := Scalar.remsi arg0 c2_i32
  let v1463 : Index := Scalar.indexCast v11
  let c256_661 : Index := 256#32
  let c0_662 : Index := 0#32
  ![v1463.toNat, 256, 0]
def k0_off75 (i : grid0.Coords) : Fin 3 → Nat :=
  let arg0 : BitVec 32 := BitVec.ofNat 32 (i 0).val
  let c2_i32 : BitVec 32 := 2#32
  let v11 : BitVec 32 := Scalar.remsi arg0 c2_i32
  let v1468 : Index := Scalar.indexCast v11
  let c384_663 : Index := 384#32
  let c0_664 : Index := 0#32
  ![v1468.toNat, 384, 0]
def k0_off76 (i : grid0.Coords) : Fin 2 → Nat :=
  let arg0 : BitVec 32 := BitVec.ofNat 32 (i 0).val
  let c4_i32 : BitVec 32 := 4#32
  let v1474 : BitVec 32 := Scalar.muli arg0 c4_i32
  let v1475 : Index := Scalar.indexCast v1474
  let c0_665 : Index := 0#32
  ![v1475.toNat, 0]
def k0_cond3 (i : grid0.Coords) : BitVec 1 :=
  let arg0 : BitVec 32 := BitVec.ofNat 32 (i 0).val
  let c48_i32_3 : BitVec 32 := 48#32
  let v8 : BitVec 1 := Scalar.cmpi .eq arg0 c48_i32_3
  let v9 : BitVec 32 := Scalar.extui v8
  let c0_i32_4 : BitVec 32 := 0#32
  let v10 : BitVec 1 := Scalar.cmpi .ne v9 c0_i32_4
  v10

def k0_off77 (i : grid0.Coords) : Fin 3 → Nat :=
  let c1_i32 : BitVec 32 := 1#32
  let arg0 : BitVec 32 := BitVec.ofNat 32 (i 0).val
  let c2_i32 : BitVec 32 := 2#32
  let v11 : BitVec 32 := Scalar.remsi arg0 c2_i32
  let v12 : BitVec 32 := Scalar.subi c1_i32 v11
  let v13 : Index := Scalar.indexCast v12
  let c0 : Index := 0#32
  let c0_5 : Index := 0#32
  ![v13.toNat, 0, 0]
def k0_off78 (i : grid0.Coords) : Fin 3 → Nat :=
  let c1_i32 : BitVec 32 := 1#32
  let arg0 : BitVec 32 := BitVec.ofNat 32 (i 0).val
  let c2_i32 : BitVec 32 := 2#32
  let v11 : BitVec 32 := Scalar.remsi arg0 c2_i32
  let v12 : BitVec 32 := Scalar.subi c1_i32 v11
  let v18 : Index := Scalar.indexCast v12
  let c0_8 : Index := 0#32
  let c0_9 : Index := 0#32
  ![v18.toNat, 0, 0]
def cc0_transform_0 (i : grid0.Coords) : Fin 2 → Nat :=
  let arg0 : BitVec 32 := BitVec.ofNat 32 (i 0).val
  let c47_i32 : BitVec 32 := 47#32
  let v0 : BitVec 32 := Scalar.minsi arg0 c47_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_5 (i : grid0.Coords) : Fin 2 → Nat :=
  let arg0 : BitVec 32 := BitVec.ofNat 32 (i 0).val
  let c47_i32 : BitVec 32 := 47#32
  let v0 : BitVec 32 := Scalar.minsi arg0 c47_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x8x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S192x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S3x8192x2048 : Shape := ⟨3, ![3, 8192, 2048]⟩
abbrev S2048x8192 : Shape := ⟨2, ![2048, 8192]⟩
abbrev S8192 : Shape := ⟨1, ![8192]⟩
abbrev S3x8192x8192 : Shape := ⟨3, ![3, 8192, 8192]⟩
abbrev S24576x2048 : Shape := ⟨2, ![24576, 2048]⟩
abbrev S1x8192 : Shape := ⟨2, ![1, 8192]⟩
abbrev S24576x8192 : Shape := ⟨2, ![24576, 8192]⟩
abbrev S3072x8x8192 : Shape := ⟨3, ![3072, 8, 8192]⟩
abbrev S192x128 : Shape := ⟨2, ![192, 128]⟩
abbrev S24576 : Shape := ⟨1, ![24576]⟩
abbrev S24576x1 : Shape := ⟨2, ![24576, 1]⟩

abbrev nBuf : Space → Nat
  | .hbm => 10
  | .vmem => 7
  | .smem => 0
  | _ => 0

abbrev bufTy : (tb : Table) → Fin (tcTables nBuf tb) → BufTy
  | .hbm, ⟨0, _⟩ => ⟨S3x8192x2048, .bf16⟩
  | .hbm, ⟨1, _⟩ => ⟨S2048x8192, .fp8e4m3⟩
  | .hbm, ⟨2, _⟩ => ⟨S8192, .f32⟩
  | .hbm, ⟨3, _⟩ => ⟨S3x8192x8192, .bf16⟩
  | .hbm, ⟨4, _⟩ => ⟨S24576x2048, .bf16⟩
  | .hbm, ⟨5, _⟩ => ⟨S1x8192, .f32⟩
  | .hbm, ⟨6, _⟩ => ⟨S24576x8192, .bf16⟩
  | .hbm, ⟨7, _⟩ => ⟨S3072x8x8192, .bf16⟩
  | .hbm, ⟨8, _⟩ => ⟨S24576x2048, .fp8e4m3⟩
  | .hbm, ⟨9, _⟩ => ⟨S192x128, .f32⟩
  | .local _ .vmem, ⟨0, _⟩ => ⟨S24576x2048, .bf16⟩
  | .local _ .vmem, ⟨1, _⟩ => ⟨S2048x8192, .fp8e4m3⟩
  | .local _ .vmem, ⟨2, _⟩ => ⟨S1x8192, .f32⟩
  | .local _ .vmem, ⟨3, _⟩ => ⟨S24576x8192, .bf16⟩
  | .local _ .vmem, ⟨4, _⟩ => ⟨S3072x8x8192, .bf16⟩
  | .local _ .vmem, ⟨5, _⟩ => ⟨S24576x2048, .fp8e4m3⟩
  | .local _ .vmem, ⟨6, _⟩ => ⟨S192x128, .f32⟩
  | _, _ => ⟨S3x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S24576x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x8x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S192x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.BitsSetup.lean ====
/- What the runs of the kernel's three cases share: the body's branch conditions in closed form over the 49 points,
   the staging memrefs the pipeline passes at a point, and the scratch the body owns beside the windows. -/
module

public import proofs.«01_k».proof.Proof.Gen.Kernel.Frame
public import proofs.«01_k».proof.Proof.Gen.Kernel.Skeleton

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 49 = 0 :=
  (fun t => by
    have ht : t.val < 49 := Nat.lt_of_lt_of_eq t.isLt N_0
    have e0 : (grid0.coords t 0).val = t.val / 1 % 49 := Pipeline.Grid.coords_val t 0 (by decide) rfl
    simp only [cond0_0, k0_cond1, e0]
    word_cmp
   : ∀ t : Fin grid0.N, cond0_0 (grid0.coords t) ↔ t.val % 49 = 0)

/-- The condition of the body's `scf.if` 1 (`k0_h2`), from the grid coordinates (the skeleton's scalar
    chain substituted). -/
abbrev cond0_1 (i : grid0.Coords) : Prop := k0_cond2 i = 1#1
/-- It holds at the points whose coordinates have 1 ≤ i0 and i0 ≤ 47 — decided over the grid. -/
theorem hcond0_1 : ∀ t : Fin cfg0.N, cond0_1 (grid0.coords t) ↔ (1 ≤ t.val % 49 ∧ t.val % 49 ≤ 47) :=
  (by decide +kernel : ∀ t : Fin grid0.N, cond0_1 (grid0.coords t) ↔ (1 ≤ t.val % 49 ∧ t.val % 49 ≤ 47))

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 49 = 48 :=
  (fun t => by
    have ht : t.val < 49 := Nat.lt_of_lt_of_eq t.isLt N_0
    have e0 : (grid0.coords t 0).val = t.val / 1 % 49 := Pipeline.Grid.coords_val t 0 (by decide) rfl
    simp only [cond0_2, k0_cond3, e0]
    word_cmp
   : ∀ t : Fin grid0.N, cond0_2 (grid0.coords t) ↔ t.val % 49 = 48)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x8192 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8192 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x8192 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x8x8192 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2048 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S192x128 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S2x512x2048 .fp8e4m3 := Memref.whole cc0_scratch0
abbrev scM0_1 : Memref sig .tc .vmem S2x512x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.BitsRunA.lean ====
/- The original program's body at the first grid point. -/
module

public import proofs.«01_k».proof.Proof.BitsSetup

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1192000 in
/-- The body's triple at the first grid point: the inputs stay, the outputs and the scratch end at some contents. -/
theorem kernelRun0_A (c : Dev nD) (i : grid0.Coords) (arg1 : Memref sig .tc .vmem S512x2048 .bf16) (harg1 : arg1.IsWhole) (arg2 : Memref sig .tc .vmem S2048x8192 .fp8e4m3) (harg2 : arg2.IsWhole) (arg3 : Memref sig .tc .vmem S1x8192 .f32) (harg3 : arg3.IsWhole) (arg4 : Memref sig .tc .vmem S512x8192 .bf16) (harg4 : arg4.IsWhole) (arg5 : Memref sig .tc .vmem S64x8x8192 .bf16) (harg5 : arg5.IsWhole) (arg6 : Memref sig .tc .vmem S512x2048 .fp8e4m3) (harg6 : arg6.IsWhole) (arg7 : Memref sig .tc .vmem S192x128 .f32) (harg7 : arg7.IsWhole) (arg8 : Memref sig .tc .vmem S2x512x2048 .fp8e4m3) (harg8 : arg8.IsWhole) (arg9 : Memref sig .tc .vmem S2x512x128 .f32) (harg9 : arg9.IsWhole) (hc0 : cond0_0 i) (hc1 : ¬cond0_1 i) (hc2 : ¬cond0_2 i)
    (x0 : Vec F S512x2048 .bf16) (x1 : Vec F S2048x8192 .fp8e4m3) (x2 : Vec F S1x8192 .f32) (x3 : Vec F S512x8192 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_attn_out_proj_fp8 i arg1 harg1 arg2 harg2 arg3 harg3 arg4 harg4 arg5 harg5 arg6 harg6 arg7 harg7 arg8 harg8 arg9 harg9) K := by
    intro E K
    simp only [cc0_attn_out_proj_fp8_eq_skeleton]; unfold cc0_attn_out_proj_fp8_skel
    simp only [k0_part28_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    iexists _, _; isplitr; swap; · iexact HS1
    ipureintro; rfl

end Cert.Kernel.Hand

end
-- ==== Proof.BitsRunB.lean ====
/- The original program's body at the grid points between the first and the last. -/
module

public import proofs.«01_k».proof.Proof.BitsRunA

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1844000 in
/-- The body's triple at the grid points between the first and the last: the inputs stay, the outputs and the scratch end at some contents. -/
theorem kernelRun0_B (c : Dev nD) (i : grid0.Coords) (arg1 : Memref sig .tc .vmem S512x2048 .bf16) (harg1 : arg1.IsWhole) (arg2 : Memref sig .tc .vmem S2048x8192 .fp8e4m3) (harg2 : arg2.IsWhole) (arg3 : Memref sig .tc .vmem S1x8192 .f32) (harg3 : arg3.IsWhole) (arg4 : Memref sig .tc .vmem S512x8192 .bf16) (harg4 : arg4.IsWhole) (arg5 : Memref sig .tc .vmem S64x8x8192 .bf16) (harg5 : arg5.IsWhole) (arg6 : Memref sig .tc .vmem S512x2048 .fp8e4m3) (harg6 : arg6.IsWhole) (arg7 : Memref sig .tc .vmem S192x128 .f32) (harg7 : arg7.IsWhole) (arg8 : Memref sig .tc .vmem S2x512x2048 .fp8e4m3) (harg8 : arg8.IsWhole) (arg9 : Memref sig .tc .vmem S2x512x128 .f32) (harg9 : arg9.IsWhole) (hc0 : ¬cond0_0 i) (hc1 : cond0_1 i) (hc2 : ¬cond0_2 i)
    (x0 : Vec F S512x2048 .bf16) (x1 : Vec F S2048x8192 .fp8e4m3) (x2 : Vec F S1x8192 .f32) (x3 : Vec F S512x8192 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_attn_out_proj_fp8 i arg1 harg1 arg2 harg2 arg3 harg3 arg4 harg4 arg5 harg5 arg6 harg6 arg7 harg7 arg8 harg8 arg9 harg9) K := by
    intro E K
    simp only [cc0_attn_out_proj_fp8_eq_skeleton]; unfold cc0_attn_out_proj_fp8_skel
    simp only [k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    iexists _, _; isplitr; swap; · iexact HS1
    ipureintro; rfl

end Cert.Kernel.Hand

end
-- ==== Proof.BitsRunC.lean ====
/- The original program's body at the last grid point. -/
module

public import proofs.«01_k».proof.Proof.BitsRunB

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple at the last point: the inputs stay, the outputs and the scratch end at some contents. -/
theorem kernelRun0_C (c : Dev nD) (i : grid0.Coords) (arg1 : Memref sig .tc .vmem S512x2048 .bf16) (harg1 : arg1.IsWhole) (arg2 : Memref sig .tc .vmem S2048x8192 .fp8e4m3) (harg2 : arg2.IsWhole) (arg3 : Memref sig .tc .vmem S1x8192 .f32) (harg3 : arg3.IsWhole) (arg4 : Memref sig .tc .vmem S512x8192 .bf16) (harg4 : arg4.IsWhole) (arg5 : Memref sig .tc .vmem S64x8x8192 .bf16) (harg5 : arg5.IsWhole) (arg6 : Memref sig .tc .vmem S512x2048 .fp8e4m3) (harg6 : arg6.IsWhole) (arg7 : Memref sig .tc .vmem S192x128 .f32) (harg7 : arg7.IsWhole) (arg8 : Memref sig .tc .vmem S2x512x2048 .fp8e4m3) (harg8 : arg8.IsWhole) (arg9 : Memref sig .tc .vmem S2x512x128 .f32) (harg9 : arg9.IsWhole) (hc0 : ¬cond0_0 i) (hc1 : ¬cond0_1 i) (hc2 : cond0_2 i)
    (x0 : Vec F S512x2048 .bf16) (x1 : Vec F S2048x8192 .fp8e4m3) (x2 : Vec F S1x8192 .f32) (x3 : Vec F S512x8192 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_attn_out_proj_fp8 i arg1 harg1 arg2 harg2 arg3 harg3 arg4 harg4 arg5 harg5 arg6 harg6 arg7 harg7 arg8 harg8 arg9 harg9) K := by
    intro E K
    simp only [cc0_attn_out_proj_fp8_eq_skeleton]; unfold cc0_attn_out_proj_fp8_skel
    rw [k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    iexists _, _; isplitr; swap; · iexact HS1
    ipureintro; rfl

end Cert.Kernel.Hand

end
-- ==== Proof.BitsFrame.lean ====
/- The frame claim of the original program: at every point the body runs and leaves the inputs as they were, so every
   execution ends with the argument arrays unchanged. What the outputs hold is not stated here. -/
module

public import proofs.«01_k».proof.Proof.BitsRunC
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The outputs' windows: nothing is said of what the kernel leaves in them. -/
def forgets0 : Fin 7 → Bool := fun w => w.val == 4 || w.val == 5 || w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 49 := lt_of_lt_of_eq t.isLt (show cfg0.N = 49 from N_0)
  by_cases h0 : t.val % 49 = 0
  · by_cases h1 : (1 ≤ t.val % 49 ∧ t.val % 49 ≤ 47)
    · exfalso; omega
    · by_cases h2 : t.val % 49 = 48
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t)) Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [HS0]; · iexact HS0
        isplitl [HS1]; · iexact HS1
        iintro ⟨H0, H1, H2, H3, H4, H5, H6, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
  · by_cases h1 : (1 ≤ t.val % 49 ∧ t.val % 49 ≤ 47)
    · by_cases h2 : t.val % 49 = 48
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t)) Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [HS0]; · iexact HS0
        isplitl [HS1]; · iexact HS1
        iintro ⟨H0, H1, H2, H3, H4, H5, H6, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
    · by_cases h2 : t.val % 49 = 48
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t)) Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [HS0]; · iexact HS0
        isplitl [HS1]; · iexact HS1
        iintro ⟨H0, H1, H2, H3, H4, H5, H6, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_main_arg0 m c),
      (Pipeline.RDat.FramePost.arr_in h.1 c 1 rfl).trans ((A_eq m c 1).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main_quiescent m ρ)

end Cert.Kernel.Hand

end
-- ==== Proof.Setup.lean ====
/- What the runs of the kernel's three cases share: the body's branch conditions in closed form over the 49 points,
   the staging memrefs the pipeline passes at a point, and the scratch the body owns beside the windows. -/
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 49 = 0 :=
  (fun t => by
    have ht : t.val < 49 := Nat.lt_of_lt_of_eq t.isLt N_0
    have e0 : (grid0.coords t 0).val = t.val / 1 % 49 := Pipeline.Grid.coords_val t 0 (by decide) rfl
    simp only [cond0_0, k0_cond1, e0]
    word_cmp
   : ∀ t : Fin grid0.N, cond0_0 (grid0.coords t) ↔ t.val % 49 = 0)

/-- The condition of the body's `scf.if` 1 (`k0_h2`), from the grid coordinates (the skeleton's scalar
    chain substituted). -/
abbrev cond0_1 (i : grid0.Coords) : Prop := k0_cond2 i = 1#1
/-- It holds at the points whose coordinates have 1 ≤ i0 and i0 ≤ 47 — decided over the grid. -/
theorem hcond0_1 : ∀ t : Fin cfg0.N, cond0_1 (grid0.coords t) ↔ (1 ≤ t.val % 49 ∧ t.val % 49 ≤ 47) :=
  (by decide +kernel : ∀ t : Fin grid0.N, cond0_1 (grid0.coords t) ↔ (1 ≤ t.val % 49 ∧ t.val % 49 ≤ 47))

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 49 = 48 :=
  (fun t => by
    have ht : t.val < 49 := Nat.lt_of_lt_of_eq t.isLt N_0
    have e0 : (grid0.coords t 0).val = t.val / 1 % 49 := Pipeline.Grid.coords_val t 0 (by decide) rfl
    simp only [cond0_2, k0_cond3, e0]
    word_cmp
   : ∀ t : Fin grid0.N, cond0_2 (grid0.coords t) ↔ t.val % 49 = 48)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x8192 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8192 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x8192 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x8x8192 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2048 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S192x128 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S2x512x2048 .fp8e4m3 := Memref.whole cc0_scratch0
abbrev scM0_1 : Memref sig .tc .vmem S2x512x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.Chunks.lean ====
/- The body works on a 512-row tile in 16 chunks. This module names, for one chunk, what the body computes
   (`chunkCodes`, `chunkScale`, `chunkY`), for one tile, what the 16 chunks together leave in each buffer
   (`tileCodes`, `tileScale`, `tileY`, `tileXs`), and reads a list of 16 stores as the tile's function (`Chunks`). -/
module

public import proofs.«01_k».proof.Proof.Setup
public import Idealize.ShloMosaic.Lib.WritesUnit
public import Idealize.ShloMosaic.Lib.Pointwise.Index

@[expose] public section

set_option maxRecDepth 16384

noncomputable section

namespace Cert.KernelIdeal.Hand

open Cert.KernelIdeal.Gen
open Idealize.ShloMosaic Idealize.ShloMosaic.View

/-! ## Sixteen stores that one axis keeps apart -/

section Lists

variable {sig' : RefSig} {κ : Kind} {sp : Space} {s : Shape} {e : EltTy} {Val : EltTy → Type}

/-- `n` stores, newest first. The `j`-th stores blocks of `G`, and covers, of the indices with `B`, those whose
    coordinate on axis `ax` lies in `[w j, w (j + 1))`; it covers no index without `B`. -/
def Chunks (G : s.Idx → Val e) (B : s.Idx → Prop) (ax : Fin s.rank) (w : ℕ) : ℕ → List (Piece Val s e) → Prop
  | 0, L => L = []
  | _ + 1, [] => False
  | n + 1, p :: L => ((∀ x : p.1.shape.Idx, p.2 x = G (p.1.emb x))
      ∧ ∀ y : s.Idx, y ∈ p.1.set ↔ B y ∧ w * n ≤ (y ax).val ∧ (y ax).val < w * (n + 1)) ∧ Chunks G B ax w n L

variable {G : s.Idx → Val e} {B : s.Idx → Prop} {ax : Fin s.rank} {w : ℕ}

theorem Chunks.nil : Chunks (Val := Val) G B ax w 0 [] := rfl

theorem Chunks.cons {n : ℕ} {p : Piece Val s e} {L : List (Piece Val s e)}
    (hp : (∀ x : p.1.shape.Idx, p.2 x = G (p.1.emb x))
      ∧ ∀ y : s.Idx, y ∈ p.1.set ↔ B y ∧ w * n ≤ (y ax).val ∧ (y ax).val < w * (n + 1))
    (hL : Chunks G B ax w n L) : Chunks G B ax w (n + 1) (p :: L) := ⟨hp, hL⟩

/-- An index with `B` below the stores' end reads the tile's function. -/
theorem Chunks.read_of {v : View sig' κ sp s e} {f : v.ty.Contents Val} :
    ∀ {n : ℕ} {L : List (Piece Val s e)}, Chunks G B ax w n L → ∀ y : s.Idx, B y → (y ax).val < w * n →
      v.read Val (v.writes Val f L) y = G y
  | 0, _, _, y, _, h => absurd h (by simp)
  | _ + 1, [], h, _, _, _ => h.elim
  | n + 1, p :: L, h, y, hB, hy => by
    by_cases hm : y ∈ p.1.set
    · obtain ⟨x, rfl⟩ : ∃ x, p.1.emb x = y := p.1.exists_idx_of_mem hm
      obtain ⟨r, w'⟩ := p
      rw [read_writes_cons_emb]
      exact h.1.1 x
    · have hy' : y ∉ Finset.univ.map p.1.emb := by rwa [Rect.map_emb_univ]
      rw [writes_cons, read_slice_write_of_not_mem p.1 _ _ _ hy']
      refine Chunks.read_of h.2 y hB ?_
      have := mt (h.1.2 y).mpr hm
      by_contra hlt
      exact this ⟨hB, by omega, hy⟩

/-- An index without `B` keeps what the buffer held. -/
theorem Chunks.read_miss {v : View sig' κ sp s e} {f : v.ty.Contents Val} :
    ∀ {n : ℕ} {L : List (Piece Val s e)}, Chunks G B ax w n L → ∀ y : s.Idx, ¬ B y →
      v.read Val (v.writes Val f L) y = v.read Val f y
  | 0, _, h, y, _ => by rw [show _ = _ from h]; rfl
  | _ + 1, [], h, _, _ => h.elim
  | n + 1, p :: L, h, y, hB => by
    have hy' : y ∉ Finset.univ.map p.1.emb := by
      rw [Rect.map_emb_univ]; exact fun hm => hB ((h.1.2 y).mp hm).1
    rw [writes_cons, read_slice_write_of_not_mem p.1 _ _ _ hy']
    exact Chunks.read_miss h.2 y hB

end Lists

/-! ## One chunk -/

variable {F : FTy → Type} [FloatOps F]

/-- The chunk's scales, one per row. -/
def chunkScale (v : Vec F S32x2048 .bf16) : FVec F S32x1 .f32 := k0_pay5 v
/-- The chunk's codes. -/
def chunkCodes (v : Vec F S32x2048 .bf16) : FVec F S32x2048 .fp8e4m3 := k0_pay7 (k0_pay3 v) (k0_pay4 v) k0_pay6
/-- The codes with the scratch's unit axis in front. -/
def chunkCodes3 (v : Vec F S32x2048 .bf16) : FVec F S1x32x2048 .fp8e4m3 := k0_pay8 (k0_pay3 v) (k0_pay4 v) k0_pay6
/-- The scales repeated over 128 lanes, with the scratch's unit axis in front. -/
def chunkScale3 (v : Vec F S32x2048 .bf16) : FVec F S1x32x128 .f32 := k0_pay9 (k0_pay5 v)
/-- One chunk of 512 output columns: the product scaled by both scales, plus the residual. -/
def chunkY (a : Vec F S1x512x2048 .fp8e4m3) (b : Vec F S2048x512 .fp8e4m3) (sc : Vec F S1x512x128 .f32)
    (ws : Vec F S1x512 .f32) (res : Vec F S512x512 .bf16) : FVec F S64x8x512 .bf16 := k0_pay2 a b sc ws res
/-- The tile's 512 scales as 4 rows of 128. -/
def chunkXs (a b c d : Vec F S1x128x128 .f32) : FVec F S4x128 .f32 := k0_pay133 a b c d

/-! ## One tile -/

/-- Rows `32 n` to `32 n + 31` of a tile. -/
def rows (x : Vec F S512x2048 .bf16) (n : ℕ) : Vec F S32x2048 .bf16 :=
  fun j => x (ix2 (⟨(32 * n + (j 0).val) % 512, Nat.mod_lt _ (by decide)⟩ : Fin 512) (j 1 : Fin 2048))

/-- The tile's codes. -/
def tileCodes (x : Vec F S512x2048 .bf16) : Vec F S512x2048 .fp8e4m3 :=
  fun y => chunkCodes (rows x ((y 0).val / 32)) (ix2 (⟨(y 0).val % 32, Nat.mod_lt _ (by decide)⟩ : Fin 32) (y 1 : Fin 2048))

/-- The tile's codes, as either slot of the scratch holds them. -/
def tileCodes3 (x : Vec F S512x2048 .bf16) : Vec F S2x512x2048 .fp8e4m3 :=
  fun y => chunkCodes3 (rows x ((y 1).val / 32))
    (ix3 (0 : Fin 1) (⟨(y 1).val % 32, Nat.mod_lt _ (by decide)⟩ : Fin 32) (y 2 : Fin 2048))

/-- The tile's scales over 128 lanes, as either slot of the scratch holds them. -/
def tileScale3 (x : Vec F S512x2048 .bf16) : Vec F S2x512x128 .f32 :=
  fun y => chunkScale3 (rows x ((y 1).val / 32))
    (ix3 (0 : Fin 1) (⟨(y 1).val % 32, Nat.mod_lt _ (by decide)⟩ : Fin 32) (y 2 : Fin 128))

/-- It does not look at the slot. -/
theorem tileScale3_congr (x : Vec F S512x2048 .bf16) (y y' : S2x512x128.Idx) (h1 : (y 1).val = (y' 1).val) (h2 : (y 2).val = (y' 2).val) :
    tileScale3 x y = tileScale3 x y' := by
  have e1 : y 1 = y' 1 := Fin.ext h1
  have e2 : y 2 = y' 2 := Fin.ext h2
  let g : Fin 512 → Fin 128 → Elt F .f32 := fun p q => chunkScale3 (rows x (p.val / 32))
    (ix3 (0 : Fin 1) (⟨p.val % 32, Nat.mod_lt _ (by decide)⟩ : Fin 32) q)
  show g (y 1) (y 2) = g (y' 1) (y' 2)
  rw [e1, e2]

/-- Columns `512 n` to `512 n + 511` of the weights. -/
def colsW (x : Vec F S2048x8192 .fp8e4m3) (n : ℕ) : Vec F S2048x512 .fp8e4m3 :=
  fun j => x (ix2 (j 0 : Fin 2048) (⟨(512 * n + (j 1).val) % 8192, Nat.mod_lt _ (by decide)⟩ : Fin 8192))
/-- Columns `512 n` to `512 n + 511` of the weights' scales. -/
def colsWs (x : Vec F S1x8192 .f32) (n : ℕ) : Vec F S1x512 .f32 :=
  fun j => x (ix2 (j 0 : Fin 1) (⟨(512 * n + (j 1).val) % 8192, Nat.mod_lt _ (by decide)⟩ : Fin 8192))
/-- Columns `512 n` to `512 n + 511` of the residual's tile. -/
def colsRes (x : Vec F S512x8192 .bf16) (n : ℕ) : Vec F S512x512 .bf16 :=
  fun j => x (ix2 (j 0 : Fin 512) (⟨(512 * n + (j 1).val) % 8192, Nat.mod_lt _ (by decide)⟩ : Fin 8192))

/-- Slot `o` of the codes' scratch. -/
def slotC (x : Vec F S2x512x2048 .fp8e4m3) (o : ℕ) : Vec F S1x512x2048 .fp8e4m3 :=
  fun j => x (ix3 (⟨o % 2, Nat.mod_lt _ (by decide)⟩ : Fin 2) (j 1 : Fin 512) (j 2 : Fin 2048))
/-- Slot `o` of the scales' scratch. -/
def slotS (x : Vec F S2x512x128 .f32) (o : ℕ) : Vec F S1x512x128 .f32 :=
  fun j => x (ix3 (⟨o % 2, Nat.mod_lt _ (by decide)⟩ : Fin 2) (j 1 : Fin 512) (j 2 : Fin 128))

/-- The tile's output, of the codes and scales in slot `o` of the scratch. -/
def tileY (a : Vec F S2x512x2048 .fp8e4m3) (sc : Vec F S2x512x128 .f32) (o : ℕ) (w : Vec F S2048x8192 .fp8e4m3)
    (ws : Vec F S1x8192 .f32) (res : Vec F S512x8192 .bf16) : Vec F S64x8x8192 .bf16 :=
  fun y => chunkY (slotC a o) (colsW w ((y 2).val / 512)) (slotS sc o) (colsWs ws ((y 2).val / 512))
    (colsRes res ((y 2).val / 512))
    (ix3 (y 0 : Fin 64) (y 1 : Fin 8) (⟨(y 2).val % 512, Nat.mod_lt _ (by decide)⟩ : Fin 512))

/-- Scales `128 n` to `128 n + 127` of a tile, over 128 lanes. -/
def quarter (x : Vec F S512x2048 .bf16) (n : ℕ) : Vec F S1x128x128 .f32 :=
  fun j => tileScale3 x (ix3 (0 : Fin 2) (⟨(128 * n + (j 1).val) % 512, Nat.mod_lt _ (by decide)⟩ : Fin 512) (j 2 : Fin 128))

/-- The tile's scales as 4 rows of 128. -/
def tileXs (x : Vec F S512x2048 .bf16) : FVec F S4x128 .f32 :=
  chunkXs (quarter x 0) (quarter x 1) (quarter x 2) (quarter x 3)

theorem tileXs_of (x : Vec F S512x2048 .bf16) {a b c d : Vec F S1x128x128 .f32} (ha : a = quarter x 0) (hb : b = quarter x 1)
    (hc : c = quarter x 2) (hd : d = quarter x 3) : chunkXs a b c d = tileXs x := by subst ha hb hc hd; rfl

/-! ## The stores of one chunk -/

/-- The slot the body fills at point `s` is `s % 2`, -/
theorem newSlot (i : grid0.Coords) :
    BitVec.toNat (Scalar.indexCast (Scalar.remsi (BitVec.ofNat 32 (i 0).val) 2#32)) = (i 0).val % 2 := by
  have h : (i 0).val < 49 := (i 0).isLt
  revert h
  generalize (i 0).val = n
  revert n
  decide +kernel

/-- the slot it multiplies from is the other one, -/
theorem oldSlot (i : grid0.Coords) :
    BitVec.toNat (Scalar.indexCast (Scalar.subi 1#32 (Scalar.remsi (BitVec.ofNat 32 (i 0).val) 2#32))) = ((i 0).val + 1) % 2 := by
  have h : (i 0).val < 49 := (i 0).isLt
  revert h
  generalize (i 0).val = n
  revert n
  decide +kernel

/-- and the scales' four rows start at row `4 s`. -/
theorem xsRow (i : grid0.Coords) :
    BitVec.toNat (Scalar.indexCast (Scalar.muli (BitVec.ofNat 32 (i 0).val) 4#32)) = 4 * (i 0).val := by
  have h : (i 0).val < 49 := (i 0).isLt
  revert h
  generalize (i 0).val = n
  revert n
  decide +kernel

section Pieces

variable (arg1 : Memref sig .tc .vmem S512x2048 .bf16) (harg1 : arg1.IsWhole) (x0 : Vec F S512x2048 .bf16)

/-- A chunk's load of the tile reads its 32 rows. -/
theorem readAt_rows {n o : ℕ} (hn : n < 16) (ho : o = 32 * n) (inb : ∀ a, (![o, 0] : Fin 2 → ℕ) a + S32x2048.size a ≤ S512x2048.size a) :
    View.readAt (Elt F) arg1.view (Rect.unit (s := S512x2048) ![o, 0] S32x2048.size inb).toLoadRect (harg1.unread x0) = rows x0 n := by
  funext j
  refine (congrFun (harg1.read_unread x0) _).trans (congrArg x0 (funext fun a => Fin.ext ?_))
  have h0 : (j 0).val < 32 := (j 0).isLt
  match a with
  | 0 =>
    show o + 1 * (j 0).val = (32 * n + (j 0).val) % 512
    omega
  | 1 =>
    show 0 + 1 * (j 1).val = (j 1).val
    omega

/-- The store of a chunk's codes. -/
theorem codes_piece {n o : ℕ} (hn : n < 16) (ho : o = 32 * n) (inb : ∀ a, (![o, 0] : Fin 2 → ℕ) a + S32x2048.size a ≤ S512x2048.size a)
    (inb' : ∀ a, (![o, 0] : Fin 2 → ℕ) a + S32x2048.size a ≤ S512x2048.size a) (P : FVec F S32x2048 .fp8e4m3)
    (hP : P = chunkCodes (View.readAt (Elt F) arg1.view (Rect.unit (s := S512x2048) ![o, 0] S32x2048.size inb').toLoadRect (harg1.unread x0))) :
    (∀ x : (Rect.unit (s := S512x2048) ![o, 0] S32x2048.size inb).shape.Idx, P x = tileCodes x0 ((Rect.unit (s := S512x2048) ![o, 0] S32x2048.size inb).emb x))
    ∧ ∀ y : S512x2048.Idx, y ∈ (Rect.unit (s := S512x2048) ![o, 0] S32x2048.size inb).set ↔ True ∧ 32 * n ≤ (y (0 : Fin 2)).val ∧ (y (0 : Fin 2)).val < 32 * (n + 1) := by
  subst hP ho
  rw [readAt_rows arg1 harg1 x0 hn rfl inb']
  refine ⟨fun x => ?_, fun y => ?_⟩
  · have h0 : (x 0).val < 32 := (x 0).isLt
    have e0 : ((Rect.unit (s := S512x2048) ![32 * n, 0] S32x2048.size inb).emb x 0).val = 32 * n + 1 * (x 0).val := rfl
    have e1 : ((Rect.unit (s := S512x2048) ![32 * n, 0] S32x2048.size inb).emb x 1).val = 0 + 1 * (x 1).val := rfl
    unfold tileCodes
    rw [show ((Rect.unit (s := S512x2048) ![32 * n, 0] S32x2048.size inb).emb x 0).val / 32 = n by omega]
    refine congrArg (chunkCodes (rows x0 n)) (funext fun a => Fin.ext ?_)
    match a with
    | 0 =>
      show (x 0).val = ((Rect.unit (s := S512x2048) ![32 * n, 0] S32x2048.size inb).emb x 0).val % 32
      omega
    | 1 =>
      show (x 1).val = ((Rect.unit (s := S512x2048) ![32 * n, 0] S32x2048.size inb).emb x 1).val
      omega
  · rw [Rect.mem_set_unit]
    have h1 : (y 1).val < 2048 := (y 1).isLt
    constructor
    · intro h
      have h0 : 32 * n ≤ (y 0).val ∧ (y 0).val < 32 * n + 32 := h 0
      exact ⟨trivial, h0.1, by omega⟩
    · rintro ⟨-, h, h'⟩ a
      match a with
      | 0 => show 32 * n ≤ (y 0).val ∧ (y 0).val < 32 * n + 32; omega
      | 1 => show 0 ≤ (y 1).val ∧ (y 1).val < 0 + 2048; omega

/-- The store of a chunk's codes into slot `t` of the scratch. -/
theorem codes3_piece {n o t : ℕ} (hn : n < 16) (ho : o = 32 * n) {off : Fin 3 → ℕ} (inb : ∀ a, off a + S1x32x2048.size a ≤ S2x512x2048.size a)
    (h0 : off 0 = t) (h1 : off 1 = o) (h2 : off 2 = 0)
    (inb' : ∀ a, (![o, 0] : Fin 2 → ℕ) a + S32x2048.size a ≤ S512x2048.size a) (P : FVec F S1x32x2048 .fp8e4m3)
    (hP : P = chunkCodes3 (View.readAt (Elt F) arg1.view (Rect.unit (s := S512x2048) ![o, 0] S32x2048.size inb').toLoadRect (harg1.unread x0))) :
    (∀ x : (Rect.unit (s := S2x512x2048) off S1x32x2048.size inb).shape.Idx, P x = tileCodes3 x0 ((Rect.unit (s := S2x512x2048) off S1x32x2048.size inb).emb x))
    ∧ ∀ y : S2x512x2048.Idx, y ∈ (Rect.unit (s := S2x512x2048) off S1x32x2048.size inb).set
        ↔ (y (0 : Fin 3)).val = t ∧ 32 * n ≤ (y (1 : Fin 3)).val ∧ (y (1 : Fin 3)).val < 32 * (n + 1) := by
  subst hP ho
  rw [readAt_rows arg1 harg1 x0 hn rfl inb']
  refine ⟨fun x => ?_, fun y => ?_⟩
  · have hx0 : (x 0).val < 1 := (x 0).isLt
    have hx1 : (x 1).val < 32 := (x 1).isLt
    have e1 : ((Rect.unit (s := S2x512x2048) off S1x32x2048.size inb).emb x 1).val = off 1 + 1 * (x 1).val := rfl
    have e2 : ((Rect.unit (s := S2x512x2048) off S1x32x2048.size inb).emb x 2).val = off 2 + 1 * (x 2).val := rfl
    unfold tileCodes3
    rw [show ((Rect.unit (s := S2x512x2048) off S1x32x2048.size inb).emb x 1).val / 32 = n by omega]
    refine congrArg (chunkCodes3 (rows x0 n)) (funext fun a => Fin.ext ?_)
    match a with
    | 0 => show (x 0).val = 0; omega
    | 1 =>
      show (x 1).val = ((Rect.unit (s := S2x512x2048) off S1x32x2048.size inb).emb x 1).val % 32
      omega
    | 2 =>
      show (x 2).val = ((Rect.unit (s := S2x512x2048) off S1x32x2048.size inb).emb x 2).val
      omega
  · rw [Rect.mem_set_unit]
    have hy : (y 2).val < 2048 := (y 2).isLt
    constructor
    · intro h
      have g0 : off 0 ≤ (y 0).val ∧ (y 0).val < off 0 + 1 := h 0
      have g1 : off 1 ≤ (y 1).val ∧ (y 1).val < off 1 + 32 := h 1
      exact ⟨by omega, by omega, by omega⟩
    · rintro ⟨g, h, h'⟩ a
      match a with
      | 0 => show off 0 ≤ (y 0).val ∧ (y 0).val < off 0 + 1; omega
      | 1 => show off 1 ≤ (y 1).val ∧ (y 1).val < off 1 + 32; omega
      | 2 => show off 2 ≤ (y 2).val ∧ (y 2).val < off 2 + 2048; omega

/-- The store of a chunk's scales into slot `t` of the scratch. -/
theorem scale3_piece {n o t : ℕ} (hn : n < 16) (ho : o = 32 * n) {off : Fin 3 → ℕ} (inb : ∀ a, off a + S1x32x128.size a ≤ S2x512x128.size a)
    (h0 : off 0 = t) (h1 : off 1 = o) (h2 : off 2 = 0)
    (inb' : ∀ a, (![o, 0] : Fin 2 → ℕ) a + S32x2048.size a ≤ S512x2048.size a) (P : FVec F S1x32x128 .f32)
    (hP : P = chunkScale3 (View.readAt (Elt F) arg1.view (Rect.unit (s := S512x2048) ![o, 0] S32x2048.size inb').toLoadRect (harg1.unread x0))) :
    (∀ x : (Rect.unit (s := S2x512x128) off S1x32x128.size inb).shape.Idx, P x = tileScale3 x0 ((Rect.unit (s := S2x512x128) off S1x32x128.size inb).emb x))
    ∧ ∀ y : S2x512x128.Idx, y ∈ (Rect.unit (s := S2x512x128) off S1x32x128.size inb).set
        ↔ (y (0 : Fin 3)).val = t ∧ 32 * n ≤ (y (1 : Fin 3)).val ∧ (y (1 : Fin 3)).val < 32 * (n + 1) := by
  subst hP ho
  rw [readAt_rows arg1 harg1 x0 hn rfl inb']
  refine ⟨fun x => ?_, fun y => ?_⟩
  · have hx0 : (x 0).val < 1 := (x 0).isLt
    have hx1 : (x 1).val < 32 := (x 1).isLt
    have e1 : ((Rect.unit (s := S2x512x128) off S1x32x128.size inb).emb x 1).val = off 1 + 1 * (x 1).val := rfl
    have e2 : ((Rect.unit (s := S2x512x128) off S1x32x128.size inb).emb x 2).val = off 2 + 1 * (x 2).val := rfl
    unfold tileScale3
    rw [show ((Rect.unit (s := S2x512x128) off S1x32x128.size inb).emb x 1).val / 32 = n by omega]
    refine congrArg (chunkScale3 (rows x0 n)) (funext fun a => Fin.ext ?_)
    match a with
    | 0 => show (x 0).val = 0; omega
    | 1 =>
      show (x 1).val = ((Rect.unit (s := S2x512x128) off S1x32x128.size inb).emb x 1).val % 32
      omega
    | 2 =>
      show (x 2).val = ((Rect.unit (s := S2x512x128) off S1x32x128.size inb).emb x 2).val
      omega
  · rw [Rect.mem_set_unit]
    have hy : (y 2).val < 128 := (y 2).isLt
    constructor
    · intro h
      have g0 : off 0 ≤ (y 0).val ∧ (y 0).val < off 0 + 1 := h 0
      have g1 : off 1 ≤ (y 1).val ∧ (y 1).val < off 1 + 32 := h 1
      exact ⟨by omega, by omega, by omega⟩
    · rintro ⟨g, h, h'⟩ a
      match a with
      | 0 => show off 0 ≤ (y 0).val ∧ (y 0).val < off 0 + 1; omega
      | 1 => show off 1 ≤ (y 1).val ∧ (y 1).val < off 1 + 32; omega
      | 2 => show off 2 ≤ (y 2).val ∧ (y 2).val < off 2 + 128; omega

end Pieces

section Load

variable (arg9 : Memref sig .tc .vmem S2x512x128 .f32) (x0 : Vec F S512x2048 .bf16)

/-- After the 16 stores, the loads of the filled slot's scales read a quarter of the tile's scales each. -/
theorem readAt_quarter {t n : ℕ} (hn : n < 4) (f : arg9.view.ty.Contents (Elt F)) {L : List (Piece (Elt F) S2x512x128 .f32)}
    (hL : Chunks (tileScale3 x0) (fun y => (y (0 : Fin 3)).val = t) (1 : Fin 3) 32 16 L)
    {off : Fin 3 → ℕ} (inb : ∀ a, off a + S1x128x128.size a ≤ S2x512x128.size a)
    (h0 : off 0 = t) (h1 : off 1 = 128 * n) (h2 : off 2 = 0) :
    View.readAt (Elt F) arg9.view (Rect.unit (s := S2x512x128) off S1x128x128.size inb).toLoadRect (arg9.view.writes (Elt F) f L) = quarter x0 n := by
  funext j
  have hj0 : (j 0).val < 1 := (j 0).isLt
  have hj1 : (j 1).val < 128 := (j 1).isLt
  have e0 : ((Rect.unit (s := S2x512x128) off S1x128x128.size inb).emb j 0).val = off 0 + 1 * (j 0).val := rfl
  have e1 : ((Rect.unit (s := S2x512x128) off S1x128x128.size inb).emb j 1).val = off 1 + 1 * (j 1).val := rfl
  have e2 : ((Rect.unit (s := S2x512x128) off S1x128x128.size inb).emb j 2).val = off 2 + 1 * (j 2).val := rfl
  refine (hL.read_of ((Rect.unit (s := S2x512x128) off S1x128x128.size inb).emb j) (by show _ = _; omega) (by show _ < _; omega)).trans ?_
  exact tileScale3_congr x0 _ _ (by show _ = (128 * n + (j 1).val) % 512; omega) (by show _ = (j 2).val; omega)

end Load

/-- What one point does to the resident scales: rows `4 s` to `4 s + 3` become the tile's, the others stay. -/
def XsStep (x0 : Vec F S512x2048 .bf16) (s : ℕ) (d d' : Vec F S192x128 .f32) : Prop :=
  (∀ (a : Fin 4) (b : Fin 128) (h : 4 * s + a.val < 192), d' (ix2 (⟨4 * s + a.val, h⟩ : Fin 192) b) = tileXs x0 (ix2 a b))
  ∧ ∀ (r : Fin 192) (b : Fin 128), r.val < 4 * s ∨ 4 * s + 4 ≤ r.val → d' (ix2 r b) = d (ix2 r b)

/-- The one store of the tile's scales is that step. -/
theorem xsStep_of (arg7 : Memref sig .tc .vmem S192x128 .f32) (x0 : Vec F S512x2048 .bf16) {s : ℕ} (f : arg7.view.ty.Contents (Elt F)) {off : Fin 2 → ℕ}
    (inb : ∀ a, off a + S4x128.size a ≤ S192x128.size a) (h0 : off 0 = 4 * s) (h1 : off 1 = 0) (P : FVec F S4x128 .f32) (hP : P = tileXs x0) :
    XsStep x0 s (arg7.view.read (Elt F) f)
      (arg7.view.read (Elt F) (arg7.view.writes (Elt F) f [⟨Rect.unit (s := S192x128) off S4x128.size inb, P⟩])) := by
  subst hP
  refine ⟨fun a b h => ?_, fun r b h => ?_⟩
  · have e : (Rect.unit (s := S192x128) off S4x128.size inb).emb (ix2 a b : S4x128.Idx) = ix2 (⟨4 * s + a.val, h⟩ : Fin 192) b := by
      funext k; refine Fin.ext ?_
      match k with
      | 0 => show off 0 + 1 * a.val = 4 * s + a.val; omega
      | 1 => show off 1 + 1 * b.val = b.val; omega
    rw [← e]
    exact read_writes_cons_emb ..
  · have hy : (ix2 r b : S192x128.Idx) ∉ Finset.univ.map (Rect.unit (s := S192x128) off S4x128.size inb).emb := by
      rw [Rect.map_emb_univ, Rect.mem_set_unit]
      intro hm
      have : off 0 ≤ r.val ∧ r.val < off 0 + 4 := hm 0
      omega
    rw [writes_cons, read_slice_write_of_not_mem _ _ _ _ hy]
    rfl

/-- Slot `s % 2` of the codes' scratch holds the tile's codes. -/
def SlotC (x0 : Vec F S512x2048 .bf16) (s : ℕ) (a : Vec F S2x512x2048 .fp8e4m3) : Prop :=
  ∀ y : S2x512x2048.Idx, (y 0).val = s % 2 → a y = tileCodes3 x0 y
/-- Slot `s % 2` of the scales' scratch holds the tile's scales. -/
def SlotS (x0 : Vec F S512x2048 .bf16) (s : ℕ) (a : Vec F S2x512x128 .f32) : Prop :=
  ∀ y : S2x512x128.Idx, (y 0).val = s % 2 → a y = tileScale3 x0 y

/-- After its 16 stores, the codes' block holds the tile's codes. -/
theorem codes_read {arg6 : Memref sig .tc .vmem S512x2048 .fp8e4m3} {x0 : Vec F S512x2048 .bf16} {f : arg6.view.ty.Contents (Elt F)}
    {L : List (Piece (Elt F) S512x2048 .fp8e4m3)} (hL : Chunks (tileCodes x0) (fun _ => True) (0 : Fin 2) 32 16 L) :
    arg6.view.read (Elt F) (arg6.view.writes (Elt F) f L) = tileCodes x0 :=
  funext fun y => hL.read_of y trivial (by have h : (y 0).val < 512 := (y 0).isLt; show _ < _; exact h)

theorem slotC_read {arg8 : Memref sig .tc .vmem S2x512x2048 .fp8e4m3} {x0 : Vec F S512x2048 .bf16} {s : ℕ} {f : arg8.view.ty.Contents (Elt F)}
    {L : List (Piece (Elt F) S2x512x2048 .fp8e4m3)}
    (hL : Chunks (tileCodes3 x0) (fun y => (y (0 : Fin 3)).val = s % 2) (1 : Fin 3) 32 16 L) :
    SlotC x0 s (arg8.view.read (Elt F) (arg8.view.writes (Elt F) f L)) :=
  fun y hy => hL.read_of y hy (by have h : (y 1).val < 512 := (y 1).isLt; show _ < _; exact h)

theorem slotS_read {arg9 : Memref sig .tc .vmem S2x512x128 .f32} {x0 : Vec F S512x2048 .bf16} {s : ℕ} {f : arg9.view.ty.Contents (Elt F)}
    {L : List (Piece (Elt F) S2x512x128 .f32)}
    (hL : Chunks (tileScale3 x0) (fun y => (y (0 : Fin 3)).val = s % 2) (1 : Fin 3) 32 16 L) :
    SlotS x0 s (arg9.view.read (Elt F) (arg9.view.writes (Elt F) f L)) :=
  fun y hy => hL.read_of y hy (by have h : (y 1).val < 512 := (y 1).isLt; show _ < _; exact h)

section Multiply

variable (arg2 : Memref sig .tc .vmem S2048x8192 .fp8e4m3) (harg2 : arg2.IsWhole) (arg3 : Memref sig .tc .vmem S1x8192 .f32) (harg3 : arg3.IsWhole)
  (arg4 : Memref sig .tc .vmem S512x8192 .bf16) (harg4 : arg4.IsWhole) (arg8 : Memref sig .tc .vmem S2x512x2048 .fp8e4m3)
  (arg9 : Memref sig .tc .vmem S2x512x128 .f32)
  (x1 : Vec F S2048x8192 .fp8e4m3) (x2 : Vec F S1x8192 .f32) (x3 : Vec F S512x8192 .bf16)

theorem readAt_colsW {n o : ℕ} (hn : n < 16) (ho : o = 512 * n) (inb : ∀ a, (![0, o] : Fin 2 → ℕ) a + S2048x512.size a ≤ S2048x8192.size a) :
    View.readAt (Elt F) arg2.view (Rect.unit (s := S2048x8192) ![0, o] S2048x512.size inb).toLoadRect (harg2.unread x1) = colsW x1 n := by
  funext j
  refine (congrFun (harg2.read_unread x1) _).trans (congrArg x1 (funext fun a => Fin.ext ?_))
  have h1 : (j 1).val < 512 := (j 1).isLt
  match a with
  | 0 => show 0 + 1 * (j 0).val = (j 0).val; omega
  | 1 => show o + 1 * (j 1).val = (512 * n + (j 1).val) % 8192; omega

theorem readAt_colsWs {n o : ℕ} (hn : n < 16) (ho : o = 512 * n) (inb : ∀ a, (![0, o] : Fin 2 → ℕ) a + S1x512.size a ≤ S1x8192.size a) :
    View.readAt (Elt F) arg3.view (Rect.unit (s := S1x8192) ![0, o] S1x512.size inb).toLoadRect (harg3.unread x2) = colsWs x2 n := by
  funext j
  refine (congrFun (harg3.read_unread x2) _).trans (congrArg x2 (funext fun a => Fin.ext ?_))
  have h1 : (j 1).val < 512 := (j 1).isLt
  match a with
  | 0 => show 0 + 1 * (j 0).val = (j 0).val; omega
  | 1 => show o + 1 * (j 1).val = (512 * n + (j 1).val) % 8192; omega

theorem readAt_colsRes {n o : ℕ} (hn : n < 16) (ho : o = 512 * n) (inb : ∀ a, (![0, o] : Fin 2 → ℕ) a + S512x512.size a ≤ S512x8192.size a) :
    View.readAt (Elt F) arg4.view (Rect.unit (s := S512x8192) ![0, o] S512x512.size inb).toLoadRect (harg4.unread x3) = colsRes x3 n := by
  funext j
  refine (congrFun (harg4.read_unread x3) _).trans (congrArg x3 (funext fun a => Fin.ext ?_))
  have h1 : (j 1).val < 512 := (j 1).isLt
  match a with
  | 0 => show 0 + 1 * (j 0).val = (j 0).val; omega
  | 1 => show o + 1 * (j 1).val = (512 * n + (j 1).val) % 8192; omega

/-- A load of the slot that the point's stores leave alone reads what the scratch held before the point. -/
theorem readAt_slotC {u t m : ℕ} (hu : u < 2) (hut : u ≠ t) {G : S2x512x2048.Idx → Elt F .fp8e4m3} {f : arg8.view.ty.Contents (Elt F)}
    {L : List (Piece (Elt F) S2x512x2048 .fp8e4m3)} (hL : Chunks G (fun y => (y (0 : Fin 3)).val = t) (1 : Fin 3) 32 m L)
    {off : Fin 3 → ℕ} (inb : ∀ a, off a + S1x512x2048.size a ≤ S2x512x2048.size a) (h0 : off 0 = u) (h1 : off 1 = 0) (h2 : off 2 = 0) :
    View.readAt (Elt F) arg8.view (Rect.unit (s := S2x512x2048) off S1x512x2048.size inb).toLoadRect (arg8.view.writes (Elt F) f L)
      = slotC (arg8.view.read (Elt F) f) u := by
  funext j
  have hj0 : (j 0).val < 1 := (j 0).isLt
  have e0 : ((Rect.unit (s := S2x512x2048) off S1x512x2048.size inb).emb j 0).val = off 0 + 1 * (j 0).val := rfl
  refine (hL.read_miss ((Rect.unit (s := S2x512x2048) off S1x512x2048.size inb).emb j) (by show ¬ _ = _; omega)).trans ?_
  refine congrArg (arg8.view.read (Elt F) f) (funext fun a => Fin.ext ?_)
  match a with
  | 0 => show off 0 + 1 * (j 0).val = u % 2; omega
  | 1 => show off 1 + 1 * (j 1).val = (j 1).val; omega
  | 2 => show off 2 + 1 * (j 2).val = (j 2).val; omega

theorem readAt_slotS {u t m : ℕ} (hu : u < 2) (hut : u ≠ t) {G : S2x512x128.Idx → Elt F .f32} {f : arg9.view.ty.Contents (Elt F)}
    {L : List (Piece (Elt F) S2x512x128 .f32)} (hL : Chunks G (fun y => (y (0 : Fin 3)).val = t) (1 : Fin 3) 32 m L)
    {off : Fin 3 → ℕ} (inb : ∀ a, off a + S1x512x128.size a ≤ S2x512x128.size a) (h0 : off 0 = u) (h1 : off 1 = 0) (h2 : off 2 = 0) :
    View.readAt (Elt F) arg9.view (Rect.unit (s := S2x512x128) off S1x512x128.size inb).toLoadRect (arg9.view.writes (Elt F) f L)
      = slotS (arg9.view.read (Elt F) f) u := by
  funext j
  have hj0 : (j 0).val < 1 := (j 0).isLt
  have e0 : ((Rect.unit (s := S2x512x128) off S1x512x128.size inb).emb j 0).val = off 0 + 1 * (j 0).val := rfl
  refine (hL.read_miss ((Rect.unit (s := S2x512x128) off S1x512x128.size inb).emb j) (by show ¬ _ = _; omega)).trans ?_
  refine congrArg (arg9.view.read (Elt F) f) (funext fun a => Fin.ext ?_)
  match a with
  | 0 => show off 0 + 1 * (j 0).val = u % 2; omega
  | 1 => show off 1 + 1 * (j 1).val = (j 1).val; omega
  | 2 => show off 2 + 1 * (j 2).val = (j 2).val; omega

/-- The same loads before any store of the point. -/
theorem readAt_slotC0 {u : ℕ} (hu : u < 2) {f : arg8.view.ty.Contents (Elt F)}
    {off : Fin 3 → ℕ} (inb : ∀ a, off a + S1x512x2048.size a ≤ S2x512x2048.size a) (h0 : off 0 = u) (h1 : off 1 = 0) (h2 : off 2 = 0) :
    View.readAt (Elt F) arg8.view (Rect.unit (s := S2x512x2048) off S1x512x2048.size inb).toLoadRect f = slotC (arg8.view.read (Elt F) f) u :=
  readAt_slotC arg8 (t := u + 1) hu (by omega) (Chunks.nil (G := arg8.view.read (Elt F) f)) inb h0 h1 h2

theorem readAt_slotS0 {u : ℕ} (hu : u < 2) {f : arg9.view.ty.Contents (Elt F)}
    {off : Fin 3 → ℕ} (inb : ∀ a, off a + S1x512x128.size a ≤ S2x512x128.size a) (h0 : off 0 = u) (h1 : off 1 = 0) (h2 : off 2 = 0) :
    View.readAt (Elt F) arg9.view (Rect.unit (s := S2x512x128) off S1x512x128.size inb).toLoadRect f = slotS (arg9.view.read (Elt F) f) u :=
  readAt_slotS arg9 (t := u + 1) hu (by omega) (Chunks.nil (G := arg9.view.read (Elt F) f)) inb h0 h1 h2

/-- The store of one chunk of output columns. -/
theorem y_piece (a : Vec F S2x512x2048 .fp8e4m3) (sc : Vec F S2x512x128 .f32) (u : ℕ) {n o : ℕ} (hn : n < 16) (ho : o = 512 * n)
    (inb : ∀ a, (![0, 0, o] : Fin 3 → ℕ) a + S64x8x512.size a ≤ S64x8x8192.size a) (P : FVec F S64x8x512 .bf16)
    {A : Vec F S1x512x2048 .fp8e4m3} {SC : Vec F S1x512x128 .f32} (hA : A = slotC a u) (hSC : SC = slotS sc u)
    (inb2 : ∀ a, (![0, o] : Fin 2 → ℕ) a + S2048x512.size a ≤ S2048x8192.size a)
    (inb3 : ∀ a, (![0, o] : Fin 2 → ℕ) a + S1x512.size a ≤ S1x8192.size a)
    (inb4 : ∀ a, (![0, o] : Fin 2 → ℕ) a + S512x512.size a ≤ S512x8192.size a)
    (hP : P = chunkY A (View.readAt (Elt F) arg2.view (Rect.unit (s := S2048x8192) ![0, o] S2048x512.size inb2).toLoadRect (harg2.unread x1)) SC
      (View.readAt (Elt F) arg3.view (Rect.unit (s := S1x8192) ![0, o] S1x512.size inb3).toLoadRect (harg3.unread x2))
      (View.readAt (Elt F) arg4.view (Rect.unit (s := S512x8192) ![0, o] S512x512.size inb4).toLoadRect (harg4.unread x3))) :
    (∀ x : (Rect.unit (s := S64x8x8192) ![0, 0, o] S64x8x512.size inb).shape.Idx, P x = tileY a sc u x1 x2 x3 ((Rect.unit (s := S64x8x8192) ![0, 0, o] S64x8x512.size inb).emb x))
    ∧ ∀ y : S64x8x8192.Idx, y ∈ (Rect.unit (s := S64x8x8192) ![0, 0, o] S64x8x512.size inb).set
        ↔ True ∧ 512 * n ≤ (y (2 : Fin 3)).val ∧ (y (2 : Fin 3)).val < 512 * (n + 1) := by
  subst ho
  rw [readAt_colsW arg2 harg2 x1 hn rfl, readAt_colsWs arg3 harg3 x2 hn rfl, readAt_colsRes arg4 harg4 x3 hn rfl, hA, hSC] at hP
  subst hP
  refine ⟨fun x => ?_, fun y => ?_⟩
  · have hx : (x 2).val < 512 := (x 2).isLt
    have e2 : ((Rect.unit (s := S64x8x8192) ![0, 0, 512 * n] S64x8x512.size inb).emb x 2).val = 512 * n + 1 * (x 2).val := rfl
    unfold tileY
    rw [show ((Rect.unit (s := S64x8x8192) ![0, 0, 512 * n] S64x8x512.size inb).emb x 2).val / 512 = n by omega]
    refine congrArg (chunkY _ _ _ _ _) (funext fun a => Fin.ext ?_)
    match a with
    | 0 => show (x 0).val = 0 + 1 * (x 0).val; omega
    | 1 => show (x 1).val = 0 + 1 * (x 1).val; omega
    | 2 => show (x 2).val = (512 * n + 1 * (x 2).val) % 512; omega
  · rw [Rect.mem_set_unit]
    have hy0 : (y 0).val < 64 := (y 0).isLt
    have hy1 : (y 1).val < 8 := (y 1).isLt
    constructor
    · intro h
      have g : 512 * n ≤ (y 2).val ∧ (y 2).val < 512 * n + 512 := h 2
      exact ⟨trivial, g.1, by omega⟩
    · rintro ⟨-, h, h'⟩ a
      match a with
      | 0 => show 0 ≤ (y 0).val ∧ (y 0).val < 0 + 64; omega
      | 1 => show 0 ≤ (y 1).val ∧ (y 1).val < 0 + 8; omega
      | 2 => show 512 * n ≤ (y 2).val ∧ (y 2).val < 512 * n + 512; omega

/-- After its 16 stores, the output's block holds the tile's output. -/
theorem y_read {arg5 : Memref sig .tc .vmem S64x8x8192 .bf16} {G : Vec F S64x8x8192 .bf16} {f : arg5.view.ty.Contents (Elt F)}
    {L : List (Piece (Elt F) S64x8x8192 .bf16)} (hL : Chunks G (fun _ => True) (2 : Fin 3) 512 16 L) :
    arg5.view.read (Elt F) (arg5.view.writes (Elt F) f L) = G :=
  funext fun y => hL.read_of y trivial (by have h : (y 2).val < 8192 := (y 2).isLt; show _ < _; exact h)

end Multiply

end Cert.KernelIdeal.Hand

end
-- ==== Proof.RunA.lean ====
/- The body at the first grid point, which only quantises its tile: its triple, with what each buffer holds after it. -/
module

public import proofs.«01_k».proof.Proof.Chunks

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1192000 in
/-- The body's triple at the first point: on whole staging buffers, the inputs' at their contents, it ends with the
    codes' block at the tile's codes, rows `4 s` to `4 s + 3` of the scales at the tile's, and slot `s % 2` of the
    scratch at the tile's codes and scales. -/
theorem kernelRun0_A (c : Dev nD) (i : grid0.Coords) (arg1 : Memref sig .tc .vmem S512x2048 .bf16) (harg1 : arg1.IsWhole) (arg2 : Memref sig .tc .vmem S2048x8192 .fp8e4m3) (harg2 : arg2.IsWhole) (arg3 : Memref sig .tc .vmem S1x8192 .f32) (harg3 : arg3.IsWhole) (arg4 : Memref sig .tc .vmem S512x8192 .bf16) (harg4 : arg4.IsWhole) (arg5 : Memref sig .tc .vmem S64x8x8192 .bf16) (harg5 : arg5.IsWhole) (arg6 : Memref sig .tc .vmem S512x2048 .fp8e4m3) (harg6 : arg6.IsWhole) (arg7 : Memref sig .tc .vmem S192x128 .f32) (harg7 : arg7.IsWhole) (arg8 : Memref sig .tc .vmem S2x512x2048 .fp8e4m3) (harg8 : arg8.IsWhole) (arg9 : Memref sig .tc .vmem S2x512x128 .f32) (harg9 : arg9.IsWhole) (hc0 : cond0_0 i) (hc1 : ¬cond0_1 i) (hc2 : ¬cond0_2 i)
    (x0 : Vec F S512x2048 .bf16) (x1 : Vec F S2048x8192 .fp8e4m3) (x2 : Vec F S1x8192 .f32) (x3 : Vec F S512x8192 .bf16) (d6 : Vec F S192x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare d6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare (tileCodes x0) ∗ (∃ d, ⌜XsStep x0 (i 0).val d6 d⌝ ∗ owns (c : Thread nD τ) arg7 fullShare d) ∗ (∃ d, ⌜SlotC x0 (i 0).val d⌝ ∗ owns (c : Thread nD τ) arg8 fullShare d) ∗ (∃ d, ⌜SlotS x0 (i 0).val d⌝ ∗ owns (c : Thread nD τ) arg9 fullShare d)) -∗ K ⟨⟩))
          ⊢ wp frame (wpE (defs₀ (F := F)) Variants.none c none) E (cc0_attn_out_proj_fp8 i arg1 harg1 arg2 harg2 arg3 harg3 arg4 harg4 arg5 harg5 arg6 harg6 arg7 harg7 arg8 harg8 arg9 harg9) K := by
    intro E K
    simp only [cc0_attn_out_proj_fp8_eq_skeleton]; unfold cc0_attn_out_proj_fp8_skel
    simp only [k0_part28_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _; isplitr; swap; · iexact H5
      ipureintro
      exact codes_read <|
        Chunks.cons (codes_piece arg1 harg1 x0 (n := 15) (o := 480) (by omega) rfl inb_S512x2048_S32x2048_480_0 inb_S512x2048_S32x2048_480_0 _ rfl) <|
        Chunks.cons (codes_piece arg1 harg1 x0 (n := 14) (o := 448) (by omega) rfl inb_S512x2048_S32x2048_448_0 inb_S512x2048_S32x2048_448_0 _ rfl) <|
        Chunks.cons (codes_piece arg1 harg1 x0 (n := 13) (o := 416) (by omega) rfl inb_S512x2048_S32x2048_416_0 inb_S512x2048_S32x2048_416_0 _ rfl) <|
        Chunks.cons (codes_piece arg1 harg1 x0 (n := 12) (o := 384) (by omega) rfl inb_S512x2048_S32x2048_384_0 inb_S512x2048_S32x2048_384_0 _ rfl) <|
        Chunks.cons (codes_piece arg1 harg1 x0 (n := 11) (o := 352) (by omega) rfl inb_S512x2048_S32x2048_352_0 inb_S512x2048_S32x2048_352_0 _ rfl) <|
        Chunks.cons (codes_piece arg1 harg1 x0 (n := 10) (o := 320) (by omega) rfl inb_S512x2048_S32x2048_320_0 inb_S512x2048_S32x2048_320_0 _ rfl) <|
        Chunks.cons (codes_piece arg1 harg1 x0 (n := 9) (o := 288) (by omega) rfl inb_S512x2048_S32x2048_288_0 inb_S512x2048_S32x2048_288_0 _ rfl) <|
        Chunks.cons (codes_piece arg1 harg1 x0 (n := 8) (o := 256) (by omega) rfl inb_S512x2048_S32x2048_256_0 inb_S512x2048_S32x2048_256_0 _ rfl) <|
        Chunks.cons (codes_piece arg1 harg1 x0 (n := 7) (o := 224) (by omega) rfl inb_S512x2048_S32x2048_224_0 inb_S512x2048_S32x2048_224_0 _ rfl) <|
        Chunks.cons (codes_piece arg1 harg1 x0 (n := 6) (o := 192) (by omega) rfl inb_S512x2048_S32x2048_192_0 inb_S512x2048_S32x2048_192_0 _ rfl) <|
        Chunks.cons (codes_piece arg1 harg1 x0 (n := 5) (o := 160) (by omega) rfl inb_S512x2048_S32x2048_160_0 inb_S512x2048_S32x2048_160_0 _ rfl) <|
        Chunks.cons (codes_piece arg1 harg1 x0 (n := 4) (o := 128) (by omega) rfl inb_S512x2048_S32x2048_128_0 inb_S512x2048_S32x2048_128_0 _ rfl) <|
        Chunks.cons (codes_piece arg1 harg1 x0 (n := 3) (o := 96) (by omega) rfl inb_S512x2048_S32x2048_96_0 inb_S512x2048_S32x2048_96_0 _ rfl) <|
        Chunks.cons (codes_piece arg1 harg1 x0 (n := 2) (o := 64) (by omega) rfl inb_S512x2048_S32x2048_64_0 inb_S512x2048_S32x2048_64_0 _ rfl) <|
        Chunks.cons (codes_piece arg1 harg1 x0 (n := 1) (o := 32) (by omega) rfl inb_S512x2048_S32x2048_32_0 inb_S512x2048_S32x2048_32_0 _ rfl) <|
        Chunks.cons (codes_piece arg1 harg1 x0 (n := 0) (o := 0) (by omega) rfl inb_S512x2048_S32x2048_0_0 inb_S512x2048_S32x2048_0_0 _ rfl) <|
        Chunks.nil
    have S9 : Chunks (tileScale3 x0) (fun y => (y (0 : Fin 3)).val = (i 0).val % 2) (1 : Fin 3) 32 16
        (kernelRun0_A.sl.HS1_16 c i arg1 harg1 hc0 x0) :=
      Chunks.cons (scale3_piece arg1 harg1 x0 (n := 15) (o := 480) (by omega) rfl (k0_off32_inb i hc0) (newSlot i) rfl rfl inb_S512x2048_S32x2048_480_0 _ rfl) <|
      Chunks.cons (scale3_piece arg1 harg1 x0 (n := 14) (o := 448) (by omega) rfl (k0_off30_inb i hc0) (newSlot i) rfl rfl inb_S512x2048_S32x2048_448_0 _ rfl) <|
      Chunks.cons (scale3_piece arg1 harg1 x0 (n := 13) (o := 416) (by omega) rfl (k0_off28_inb i hc0) (newSlot i) rfl rfl inb_S512x2048_S32x2048_416_0 _ rfl) <|
      Chunks.cons (scale3_piece arg1 harg1 x0 (n := 12) (o := 384) (by omega) rfl (k0_off26_inb i hc0) (newSlot i) rfl rfl inb_S512x2048_S32x2048_384_0 _ rfl) <|
      Chunks.cons (scale3_piece arg1 harg1 x0 (n := 11) (o := 352) (by omega) rfl (k0_off24_inb i hc0) (newSlot i) rfl rfl inb_S512x2048_S32x2048_352_0 _ rfl) <|
      Chunks.cons (scale3_piece arg1 harg1 x0 (n := 10) (o := 320) (by omega) rfl (k0_off22_inb i hc0) (newSlot i) rfl rfl inb_S512x2048_S32x2048_320_0 _ rfl) <|
      Chunks.cons (scale3_piece arg1 harg1 x0 (n := 9) (o := 288) (by omega) rfl (k0_off20_inb i hc0) (newSlot i) rfl rfl inb_S512x2048_S32x2048_288_0 _ rfl) <|
      Chunks.cons (scale3_piece arg1 harg1 x0 (n := 8) (o := 256) (by omega) rfl (k0_off18_inb i hc0) (newSlot i) rfl rfl inb_S512x2048_S32x2048_256_0 _ rfl) <|
      Chunks.cons (scale3_piece arg1 harg1 x0 (n := 7) (o := 224) (by omega) rfl (k0_off16_inb i hc0) (newSlot i) rfl rfl inb_S512x2048_S32x2048_224_0 _ rfl) <|
      Chunks.cons (scale3_piece arg1 harg1 x0 (n := 6) (o := 192) (by omega) rfl (k0_off14_inb i hc0) (newSlot i) rfl rfl inb_S512x2048_S32x2048_192_0 _ rfl) <|
      Chunks.cons (scale3_piece arg1 harg1 x0 (n := 5) (o := 160) (by omega) rfl (k0_off12_inb i hc0) (newSlot i) rfl rfl inb_S512x2048_S32x2048_160_0 _ rfl) <|
      Chunks.cons (scale3_piece arg1 harg1 x0 (n := 4) (o := 128) (by omega) rfl (k0_off10_inb i hc0) (newSlot i) rfl rfl inb_S512x2048_S32x2048_128_0 _ rfl) <|
      Chunks.cons (scale3_piece arg1 harg1 x0 (n := 3) (o := 96) (by omega) rfl (k0_off8_inb i hc0) (newSlot i) rfl rfl inb_S512x2048_S32x2048_96_0 _ rfl) <|
      Chunks.cons (scale3_piece arg1 harg1 x0 (n := 2) (o := 64) (by omega) rfl (k0_off6_inb i hc0) (newSlot i) rfl rfl inb_S512x2048_S32x2048_64_0 _ rfl) <|
      Chunks.cons (scale3_piece arg1 harg1 x0 (n := 1) (o := 32) (by omega) rfl (k0_off4_inb i hc0) (newSlot i) rfl rfl inb_S512x2048_S32x2048_32_0 _ rfl) <|
      Chunks.cons (scale3_piece arg1 harg1 x0 (n := 0) (o := 0) (by omega) rfl (k0_off2_inb i hc0) (newSlot i) rfl rfl inb_S512x2048_S32x2048_0_0 _ rfl) <|
      Chunks.nil
    isplitl [H6]
    · iexists _; isplitr; swap
      · iexists _; isplitr; swap; · iexact H6
        ipureintro; rfl
      ipureintro
      subst hf6
      refine xsStep_of arg7 x0 f6 (k0_off37_inb i hc0) (xsRow i) rfl _ ?_
      exact tileXs_of x0
        (readAt_quarter arg9 x0 (n := 0) (by omega) arg9.view.junk S9 (k0_off33_inb i hc0) (newSlot i) rfl rfl)
        (readAt_quarter arg9 x0 (n := 1) (by omega) arg9.view.junk S9 (k0_off34_inb i hc0) (newSlot i) rfl rfl)
        (readAt_quarter arg9 x0 (n := 2) (by omega) arg9.view.junk S9 (k0_off35_inb i hc0) (newSlot i) rfl rfl)
        (readAt_quarter arg9 x0 (n := 3) (by omega) arg9.view.junk S9 (k0_off36_inb i hc0) (newSlot i) rfl rfl)
    isplitl [HS0]
    · iexists _; isplitr; swap
      · iexists _; isplitr; swap; · iexact HS0
        ipureintro; rfl
      ipureintro
      exact slotC_read <|
        Chunks.cons (codes3_piece arg1 harg1 x0 (n := 15) (o := 480) (by omega) rfl (k0_off31_inb i hc0) (newSlot i) rfl rfl inb_S512x2048_S32x2048_480_0 _ rfl) <|
        Chunks.cons (codes3_piece arg1 harg1 x0 (n := 14) (o := 448) (by omega) rfl (k0_off29_inb i hc0) (newSlot i) rfl rfl inb_S512x2048_S32x2048_448_0 _ rfl) <|
        Chunks.cons (codes3_piece arg1 harg1 x0 (n := 13) (o := 416) (by omega) rfl (k0_off27_inb i hc0) (newSlot i) rfl rfl inb_S512x2048_S32x2048_416_0 _ rfl) <|
        Chunks.cons (codes3_piece arg1 harg1 x0 (n := 12) (o := 384) (by omega) rfl (k0_off25_inb i hc0) (newSlot i) rfl rfl inb_S512x2048_S32x2048_384_0 _ rfl) <|
        Chunks.cons (codes3_piece arg1 harg1 x0 (n := 11) (o := 352) (by omega) rfl (k0_off23_inb i hc0) (newSlot i) rfl rfl inb_S512x2048_S32x2048_352_0 _ rfl) <|
        Chunks.cons (codes3_piece arg1 harg1 x0 (n := 10) (o := 320) (by omega) rfl (k0_off21_inb i hc0) (newSlot i) rfl rfl inb_S512x2048_S32x2048_320_0 _ rfl) <|
        Chunks.cons (codes3_piece arg1 harg1 x0 (n := 9) (o := 288) (by omega) rfl (k0_off19_inb i hc0) (newSlot i) rfl rfl inb_S512x2048_S32x2048_288_0 _ rfl) <|
        Chunks.cons (codes3_piece arg1 harg1 x0 (n := 8) (o := 256) (by omega) rfl (k0_off17_inb i hc0) (newSlot i) rfl rfl inb_S512x2048_S32x2048_256_0 _ rfl) <|
        Chunks.cons (codes3_piece arg1 harg1 x0 (n := 7) (o := 224) (by omega) rfl (k0_off15_inb i hc0) (newSlot i) rfl rfl inb_S512x2048_S32x2048_224_0 _ rfl) <|
        Chunks.cons (codes3_piece arg1 harg1 x0 (n := 6) (o := 192) (by omega) rfl (k0_off13_inb i hc0) (newSlot i) rfl rfl inb_S512x2048_S32x2048_192_0 _ rfl) <|
        Chunks.cons (codes3_piece arg1 harg1 x0 (n := 5) (o := 160) (by omega) rfl (k0_off11_inb i hc0) (newSlot i) rfl rfl inb_S512x2048_S32x2048_160_0 _ rfl) <|
        Chunks.cons (codes3_piece arg1 harg1 x0 (n := 4) (o := 128) (by omega) rfl (k0_off9_inb i hc0) (newSlot i) rfl rfl inb_S512x2048_S32x2048_128_0 _ rfl) <|
        Chunks.cons (codes3_piece arg1 harg1 x0 (n := 3) (o := 96) (by omega) rfl (k0_off7_inb i hc0) (newSlot i) rfl rfl inb_S512x2048_S32x2048_96_0 _ rfl) <|
        Chunks.cons (codes3_piece arg1 harg1 x0 (n := 2) (o := 64) (by omega) rfl (k0_off5_inb i hc0) (newSlot i) rfl rfl inb_S512x2048_S32x2048_64_0 _ rfl) <|
        Chunks.cons (codes3_piece arg1 harg1 x0 (n := 1) (o := 32) (by omega) rfl (k0_off3_inb i hc0) (newSlot i) rfl rfl inb_S512x2048_S32x2048_32_0 _ rfl) <|
        Chunks.cons (codes3_piece arg1 harg1 x0 (n := 0) (o := 0) (by omega) rfl (k0_off1_inb i hc0) (newSlot i) rfl rfl inb_S512x2048_S32x2048_0_0 _ rfl) <|
        Chunks.nil
    iexists _; isplitr; swap
    · iexists _; isplitr; swap; · iexact HS1
      ipureintro; rfl
    ipureintro
    exact slotS_read S9

end Cert.KernelIdeal.Hand

end
-- ==== Proof.RunB.lean ====
/- The body at a grid point strictly between the first and the last, which multiplies the previous tile and quantises its own. -/
module

public import proofs.«01_k».proof.Proof.RunA

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1844000 in
/-- The body's triple at a point strictly between the first and the last: the output's block ends at the tile output of the
    codes and scales that slot `(s + 1) % 2` of the scratch held, the codes' block at the tile's codes, rows `4 s` to
    `4 s + 3` of the scales at the tile's, and slot `s % 2` of the scratch at the tile's codes and scales. -/
theorem kernelRun0_B (c : Dev nD) (i : grid0.Coords) (arg1 : Memref sig .tc .vmem S512x2048 .bf16) (harg1 : arg1.IsWhole) (arg2 : Memref sig .tc .vmem S2048x8192 .fp8e4m3) (harg2 : arg2.IsWhole) (arg3 : Memref sig .tc .vmem S1x8192 .f32) (harg3 : arg3.IsWhole) (arg4 : Memref sig .tc .vmem S512x8192 .bf16) (harg4 : arg4.IsWhole) (arg5 : Memref sig .tc .vmem S64x8x8192 .bf16) (harg5 : arg5.IsWhole) (arg6 : Memref sig .tc .vmem S512x2048 .fp8e4m3) (harg6 : arg6.IsWhole) (arg7 : Memref sig .tc .vmem S192x128 .f32) (harg7 : arg7.IsWhole) (arg8 : Memref sig .tc .vmem S2x512x2048 .fp8e4m3) (harg8 : arg8.IsWhole) (arg9 : Memref sig .tc .vmem S2x512x128 .f32) (harg9 : arg9.IsWhole) (hc0 : ¬cond0_0 i) (hc1 : cond0_1 i) (hc2 : ¬cond0_2 i)
    (x0 : Vec F S512x2048 .bf16) (x1 : Vec F S2048x8192 .fp8e4m3) (x2 : Vec F S1x8192 .f32) (x3 : Vec F S512x8192 .bf16) (d6 : Vec F S192x128 .f32) (a : Vec F S2x512x2048 .fp8e4m3) (sc : Vec F S2x512x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare d6 ∗ owns (c : Thread nD τ) arg8 fullShare a ∗ owns (c : Thread nD τ) arg9 fullShare sc
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (tileY a sc (((i 0).val + 1) % 2) x1 x2 x3) ∗ owns (c : Thread nD τ) arg6 fullShare (tileCodes x0) ∗ (∃ d, ⌜XsStep x0 (i 0).val d6 d⌝ ∗ owns (c : Thread nD τ) arg7 fullShare d) ∗ (∃ d, ⌜SlotC x0 (i 0).val d⌝ ∗ owns (c : Thread nD τ) arg8 fullShare d) ∗ (∃ d, ⌜SlotS x0 (i 0).val d⌝ ∗ owns (c : Thread nD τ) arg9 fullShare d)) -∗ K ⟨⟩))
          ⊢ wp frame (wpE (defs₀ (F := F)) Variants.none c none) E (cc0_attn_out_proj_fp8 i arg1 harg1 arg2 harg2 arg3 harg3 arg4 harg4 arg5 harg5 arg6 harg6 arg7 harg7 arg8 harg8 arg9 harg9) K := by
    intro E K
    simp only [cc0_attn_out_proj_fp8_eq_skeleton]; unfold cc0_attn_out_proj_fp8_skel
    simp only [k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    sl_exec (disch := first | sl_exact hc0 | sl_exact hc1 | sl_exact hc2)
    sl_step
    iapply Hk
    have hu : ((i 0).val + 1) % 2 < 2 := Nat.mod_lt _ (by decide)
    have hut : ((i 0).val + 1) % 2 ≠ (i 0).val % 2 := by omega
    subst hfs0 hfs1
    have TC1 : Chunks (tileCodes3 x0) (fun y => (y (0 : Fin 3)).val = (i 0).val % 2) (1 : Fin 3) 32 1 (kernelRun0_B.sl.HS0_1 c i arg1 harg1 hc1 x0) :=
      Chunks.cons (codes3_piece arg1 harg1 x0 (n := 0) (o := 0) (by omega) rfl (k0_off40_inb i hc1) (newSlot i) rfl rfl inb_S512x2048_S32x2048_0_0 _ rfl) Chunks.nil
    have TC2 : Chunks (tileCodes3 x0) (fun y => (y (0 : Fin 3)).val = (i 0).val % 2) (1 : Fin 3) 32 2 (kernelRun0_B.sl.HS0_2 c i arg1 harg1 hc1 x0) :=
      Chunks.cons (codes3_piece arg1 harg1 x0 (n := 1) (o := 32) (by omega) rfl (k0_off42_inb i hc1) (newSlot i) rfl rfl inb_S512x2048_S32x2048_32_0 _ rfl) TC1
    have TC3 : Chunks (tileCodes3 x0) (fun y => (y (0 : Fin 3)).val = (i 0).val % 2) (1 : Fin 3) 32 3 (kernelRun0_B.sl.HS0_3 c i arg1 harg1 hc1 x0) :=
      Chunks.cons (codes3_piece arg1 harg1 x0 (n := 2) (o := 64) (by omega) rfl (k0_off44_inb i hc1) (newSlot i) rfl rfl inb_S512x2048_S32x2048_64_0 _ rfl) TC2
    have TC4 : Chunks (tileCodes3 x0) (fun y => (y (0 : Fin 3)).val = (i 0).val % 2) (1 : Fin 3) 32 4 (kernelRun0_B.sl.HS0_4 c i arg1 harg1 hc1 x0) :=
      Chunks.cons (codes3_piece arg1 harg1 x0 (n := 3) (o := 96) (by omega) rfl (k0_off46_inb i hc1) (newSlot i) rfl rfl inb_S512x2048_S32x2048_96_0 _ rfl) TC3
    have TC5 : Chunks (tileCodes3 x0) (fun y => (y (0 : Fin 3)).val = (i 0).val % 2) (1 : Fin 3) 32 5 (kernelRun0_B.sl.HS0_5 c i arg1 harg1 hc1 x0) :=
      Chunks.cons (codes3_piece arg1 harg1 x0 (n := 4) (o := 128) (by omega) rfl (k0_off48_inb i hc1) (newSlot i) rfl rfl inb_S512x2048_S32x2048_128_0 _ rfl) TC4
    have TC6 : Chunks (tileCodes3 x0) (fun y => (y (0 : Fin 3)).val = (i 0).val % 2) (1 : Fin 3) 32 6 (kernelRun0_B.sl.HS0_6 c i arg1 harg1 hc1 x0) :=
      Chunks.cons (codes3_piece arg1 harg1 x0 (n := 5) (o := 160) (by omega) rfl (k0_off50_inb i hc1) (newSlot i) rfl rfl inb_S512x2048_S32x2048_160_0 _ rfl) TC5
    have TC7 : Chunks (tileCodes3 x0) (fun y => (y (0 : Fin 3)).val = (i 0).val % 2) (1 : Fin 3) 32 7 (kernelRun0_B.sl.HS0_7 c i arg1 harg1 hc1 x0) :=
      Chunks.cons (codes3_piece arg1 harg1 x0 (n := 6) (o := 192) (by omega) rfl (k0_off52_inb i hc1) (newSlot i) rfl rfl inb_S512x2048_S32x2048_192_0 _ rfl) TC6
    have TC8 : Chunks (tileCodes3 x0) (fun y => (y (0 : Fin 3)).val = (i 0).val % 2) (1 : Fin 3) 32 8 (kernelRun0_B.sl.HS0_8 c i arg1 harg1 hc1 x0) :=
      Chunks.cons (codes3_piece arg1 harg1 x0 (n := 7) (o := 224) (by omega) rfl (k0_off54_inb i hc1) (newSlot i) rfl rfl inb_S512x2048_S32x2048_224_0 _ rfl) TC7
    have TC9 : Chunks (tileCodes3 x0) (fun y => (y (0 : Fin 3)).val = (i 0).val % 2) (1 : Fin 3) 32 9 (kernelRun0_B.sl.HS0_9 c i arg1 harg1 hc1 x0) :=
      Chunks.cons (codes3_piece arg1 harg1 x0 (n := 8) (o := 256) (by omega) rfl (k0_off56_inb i hc1) (newSlot i) rfl rfl inb_S512x2048_S32x2048_256_0 _ rfl) TC8
    have TC10 : Chunks (tileCodes3 x0) (fun y => (y (0 : Fin 3)).val = (i 0).val % 2) (1 : Fin 3) 32 10 (kernelRun0_B.sl.HS0_10 c i arg1 harg1 hc1 x0) :=
      Chunks.cons (codes3_piece arg1 harg1 x0 (n := 9) (o := 288) (by omega) rfl (k0_off58_inb i hc1) (newSlot i) rfl rfl inb_S512x2048_S32x2048_288_0 _ rfl) TC9
    have TC11 : Chunks (tileCodes3 x0) (fun y => (y (0 : Fin 3)).val = (i 0).val % 2) (1 : Fin 3) 32 11 (kernelRun0_B.sl.HS0_11 c i arg1 harg1 hc1 x0) :=
      Chunks.cons (codes3_piece arg1 harg1 x0 (n := 10) (o := 320) (by omega) rfl (k0_off60_inb i hc1) (newSlot i) rfl rfl inb_S512x2048_S32x2048_320_0 _ rfl) TC10
    have TC12 : Chunks (tileCodes3 x0) (fun y => (y (0 : Fin 3)).val = (i 0).val % 2) (1 : Fin 3) 32 12 (kernelRun0_B.sl.HS0_12 c i arg1 harg1 hc1 x0) :=
      Chunks.cons (codes3_piece arg1 harg1 x0 (n := 11) (o := 352) (by omega) rfl (k0_off62_inb i hc1) (newSlot i) rfl rfl inb_S512x2048_S32x2048_352_0 _ rfl) TC11
    have TC13 : Chunks (tileCodes3 x0) (fun y => (y (0 : Fin 3)).val = (i 0).val % 2) (1 : Fin 3) 32 13 (kernelRun0_B.sl.HS0_13 c i arg1 harg1 hc1 x0) :=
      Chunks.cons (codes3_piece arg1 harg1 x0 (n := 12) (o := 384) (by omega) rfl (k0_off64_inb i hc1) (newSlot i) rfl rfl inb_S512x2048_S32x2048_384_0 _ rfl) TC12
    have TC14 : Chunks (tileCodes3 x0) (fun y => (y (0 : Fin 3)).val = (i 0).val % 2) (1 : Fin 3) 32 14 (kernelRun0_B.sl.HS0_14 c i arg1 harg1 hc1 x0) :=
      Chunks.cons (codes3_piece arg1 harg1 x0 (n := 13) (o := 416) (by omega) rfl (k0_off66_inb i hc1) (newSlot i) rfl rfl inb_S512x2048_S32x2048_416_0 _ rfl) TC13
    have TC15 : Chunks (tileCodes3 x0) (fun y => (y (0 : Fin 3)).val = (i 0).val % 2) (1 : Fin 3) 32 15 (kernelRun0_B.sl.HS0_15 c i arg1 harg1 hc1 x0) :=
      Chunks.cons (codes3_piece arg1 harg1 x0 (n := 14) (o := 448) (by omega) rfl (k0_off68_inb i hc1) (newSlot i) rfl rfl inb_S512x2048_S32x2048_448_0 _ rfl) TC14
    have TS1 : Chunks (tileScale3 x0) (fun y => (y (0 : Fin 3)).val = (i 0).val % 2) (1 : Fin 3) 32 1 (kernelRun0_B.sl.HS1_1 c i arg1 harg1 hc1 x0) :=
      Chunks.cons (scale3_piece arg1 harg1 x0 (n := 0) (o := 0) (by omega) rfl (k0_off41_inb i hc1) (newSlot i) rfl rfl inb_S512x2048_S32x2048_0_0 _ rfl) Chunks.nil
    have TS2 : Chunks (tileScale3 x0) (fun y => (y (0 : Fin 3)).val = (i 0).val % 2) (1 : Fin 3) 32 2 (kernelRun0_B.sl.HS1_2 c i arg1 harg1 hc1 x0) :=
      Chunks.cons (scale3_piece arg1 harg1 x0 (n := 1) (o := 32) (by omega) rfl (k0_off43_inb i hc1) (newSlot i) rfl rfl inb_S512x2048_S32x2048_32_0 _ rfl) TS1
    have TS3 : Chunks (tileScale3 x0) (fun y => (y (0 : Fin 3)).val = (i 0).val % 2) (1 : Fin 3) 32 3 (kernelRun0_B.sl.HS1_3 c i arg1 harg1 hc1 x0) :=
      Chunks.cons (scale3_piece arg1 harg1 x0 (n := 2) (o := 64) (by omega) rfl (k0_off45_inb i hc1) (newSlot i) rfl rfl inb_S512x2048_S32x2048_64_0 _ rfl) TS2
    have TS4 : Chunks (tileScale3 x0) (fun y => (y (0 : Fin 3)).val = (i 0).val % 2) (1 : Fin 3) 32 4 (kernelRun0_B.sl.HS1_4 c i arg1 harg1 hc1 x0) :=
      Chunks.cons (scale3_piece arg1 harg1 x0 (n := 3) (o := 96) (by omega) rfl (k0_off47_inb i hc1) (newSlot i) rfl rfl inb_S512x2048_S32x2048_96_0 _ rfl) TS3
    have TS5 : Chunks (tileScale3 x0) (fun y => (y (0 : Fin 3)).val = (i 0).val % 2) (1 : Fin 3) 32 5 (kernelRun0_B.sl.HS1_5 c i arg1 harg1 hc1 x0) :=
      Chunks.cons (scale3_piece arg1 harg1 x0 (n := 4) (o := 128) (by omega) rfl (k0_off49_inb i hc1) (newSlot i) rfl rfl inb_S512x2048_S32x2048_128_0 _ rfl) TS4
    have TS6 : Chunks (tileScale3 x0) (fun y => (y (0 : Fin 3)).val = (i 0).val % 2) (1 : Fin 3) 32 6 (kernelRun0_B.sl.HS1_6 c i arg1 harg1 hc1 x0) :=
      Chunks.cons (scale3_piece arg1 harg1 x0 (n := 5) (o := 160) (by omega) rfl (k0_off51_inb i hc1) (newSlot i) rfl rfl inb_S512x2048_S32x2048_160_0 _ rfl) TS5
    have TS7 : Chunks (tileScale3 x0) (fun y => (y (0 : Fin 3)).val = (i 0).val % 2) (1 : Fin 3) 32 7 (kernelRun0_B.sl.HS1_7 c i arg1 harg1 hc1 x0) :=
      Chunks.cons (scale3_piece arg1 harg1 x0 (n := 6) (o := 192) (by omega) rfl (k0_off53_inb i hc1) (newSlot i) rfl rfl inb_S512x2048_S32x2048_192_0 _ rfl) TS6
    have TS8 : Chunks (tileScale3 x0) (fun y => (y (0 : Fin 3)).val = (i 0).val % 2) (1 : Fin 3) 32 8 (kernelRun0_B.sl.HS1_8 c i arg1 harg1 hc1 x0) :=
      Chunks.cons (scale3_piece arg1 harg1 x0 (n := 7) (o := 224) (by omega) rfl (k0_off55_inb i hc1) (newSlot i) rfl rfl inb_S512x2048_S32x2048_224_0 _ rfl) TS7
    have TS9 : Chunks (tileScale3 x0) (fun y => (y (0 : Fin 3)).val = (i 0).val % 2) (1 : Fin 3) 32 9 (kernelRun0_B.sl.HS1_9 c i arg1 harg1 hc1 x0) :=
      Chunks.cons (scale3_piece arg1 harg1 x0 (n := 8) (o := 256) (by omega) rfl (k0_off57_inb i hc1) (newSlot i) rfl rfl inb_S512x2048_S32x2048_256_0 _ rfl) TS8
    have TS10 : Chunks (tileScale3 x0) (fun y => (y (0 : Fin 3)).val = (i 0).val % 2) (1 : Fin 3) 32 10 (kernelRun0_B.sl.HS1_10 c i arg1 harg1 hc1 x0) :=
      Chunks.cons (scale3_piece arg1 harg1 x0 (n := 9) (o := 288) (by omega) rfl (k0_off59_inb i hc1) (newSlot i) rfl rfl inb_S512x2048_S32x2048_288_0 _ rfl) TS9
    have TS11 : Chunks (tileScale3 x0) (fun y => (y (0 : Fin 3)).val = (i 0).val % 2) (1 : Fin 3) 32 11 (kernelRun0_B.sl.HS1_11 c i arg1 harg1 hc1 x0) :=
      Chunks.cons (scale3_piece arg1 harg1 x0 (n := 10) (o := 320) (by omega) rfl (k0_off61_inb i hc1) (newSlot i) rfl rfl inb_S512x2048_S32x2048_320_0 _ rfl) TS10
    have TS12 : Chunks (tileScale3 x0) (fun y => (y (0 : Fin 3)).val = (i 0).val % 2) (1 : Fin 3) 32 12 (kernelRun0_B.sl.HS1_12 c i arg1 harg1 hc1 x0) :=
      Chunks.cons (scale3_piece arg1 harg1 x0 (n := 11) (o := 352) (by omega) rfl (k0_off63_inb i hc1) (newSlot i) rfl rfl inb_S512x2048_S32x2048_352_0 _ rfl) TS11
    have TS13 : Chunks (tileScale3 x0) (fun y => (y (0 : Fin 3)).val = (i 0).val % 2) (1 : Fin 3) 32 13 (kernelRun0_B.sl.HS1_13 c i arg1 harg1 hc1 x0) :=
      Chunks.cons (scale3_piece arg1 harg1 x0 (n := 12) (o := 384) (by omega) rfl (k0_off65_inb i hc1) (newSlot i) rfl rfl inb_S512x2048_S32x2048_384_0 _ rfl) TS12
    have TS14 : Chunks (tileScale3 x0) (fun y => (y (0 : Fin 3)).val = (i 0).val % 2) (1 : Fin 3) 32 14 (kernelRun0_B.sl.HS1_14 c i arg1 harg1 hc1 x0) :=
      Chunks.cons (scale3_piece arg1 harg1 x0 (n := 13) (o := 416) (by omega) rfl (k0_off67_inb i hc1) (newSlot i) rfl rfl inb_S512x2048_S32x2048_416_0 _ rfl) TS13
    have TS15 : Chunks (tileScale3 x0) (fun y => (y (0 : Fin 3)).val = (i 0).val % 2) (1 : Fin 3) 32 15 (kernelRun0_B.sl.HS1_15 c i arg1 harg1 hc1 x0) :=
      Chunks.cons (scale3_piece arg1 harg1 x0 (n := 14) (o := 448) (by omega) rfl (k0_off69_inb i hc1) (newSlot i) rfl rfl inb_S512x2048_S32x2048_448_0 _ rfl) TS14
    have TS16 : Chunks (tileScale3 x0) (fun y => (y (0 : Fin 3)).val = (i 0).val % 2) (1 : Fin 3) 32 16 (kernelRun0_B.sl.HS1_16 c i arg1 harg1 hc1 x0) :=
      Chunks.cons (scale3_piece arg1 harg1 x0 (n := 15) (o := 480) (by omega) rfl (k0_off71_inb i hc1) (newSlot i) rfl rfl inb_S512x2048_S32x2048_480_0 _ rfl) TS15
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      exact y_read <|
        Chunks.cons (y_piece arg2 harg2 arg3 harg3 arg4 harg4 x1 x2 x3 (arg8.view.read (Elt F) fs0) (arg9.view.read (Elt F) fs1) (((i 0).val + 1) % 2) (n := 15) (o := 7680) (by omega) rfl inb_S64x8x8192_S64x8x512_0_0_7680 _
          (readAt_slotC arg8 (f := fs0) hu hut TC15 (k0_off38_inb i hc1) (oldSlot i) rfl rfl)
          (readAt_slotS arg9 (f := fs1) hu hut TS15 (k0_off39_inb i hc1) (oldSlot i) rfl rfl)
          inb_S2048x8192_S2048x512_0_7680 inb_S1x8192_S1x512_0_7680 inb_S512x8192_S512x512_0_7680 rfl) <|
        Chunks.cons (y_piece arg2 harg2 arg3 harg3 arg4 harg4 x1 x2 x3 (arg8.view.read (Elt F) fs0) (arg9.view.read (Elt F) fs1) (((i 0).val + 1) % 2) (n := 14) (o := 7168) (by omega) rfl inb_S64x8x8192_S64x8x512_0_0_7168 _
          (readAt_slotC arg8 (f := fs0) hu hut TC14 (k0_off38_inb i hc1) (oldSlot i) rfl rfl)
          (readAt_slotS arg9 (f := fs1) hu hut TS14 (k0_off39_inb i hc1) (oldSlot i) rfl rfl)
          inb_S2048x8192_S2048x512_0_7168 inb_S1x8192_S1x512_0_7168 inb_S512x8192_S512x512_0_7168 rfl) <|
        Chunks.cons (y_piece arg2 harg2 arg3 harg3 arg4 harg4 x1 x2 x3 (arg8.view.read (Elt F) fs0) (arg9.view.read (Elt F) fs1) (((i 0).val + 1) % 2) (n := 13) (o := 6656) (by omega) rfl inb_S64x8x8192_S64x8x512_0_0_6656 _
          (readAt_slotC arg8 (f := fs0) hu hut TC13 (k0_off38_inb i hc1) (oldSlot i) rfl rfl)
          (readAt_slotS arg9 (f := fs1) hu hut TS13 (k0_off39_inb i hc1) (oldSlot i) rfl rfl)
          inb_S2048x8192_S2048x512_0_6656 inb_S1x8192_S1x512_0_6656 inb_S512x8192_S512x512_0_6656 rfl) <|
        Chunks.cons (y_piece arg2 harg2 arg3 harg3 arg4 harg4 x1 x2 x3 (arg8.view.read (Elt F) fs0) (arg9.view.read (Elt F) fs1) (((i 0).val + 1) % 2) (n := 12) (o := 6144) (by omega) rfl inb_S64x8x8192_S64x8x512_0_0_6144 _
          (readAt_slotC arg8 (f := fs0) hu hut TC12 (k0_off38_inb i hc1) (oldSlot i) rfl rfl)
          (readAt_slotS arg9 (f := fs1) hu hut TS12 (k0_off39_inb i hc1) (oldSlot i) rfl rfl)
          inb_S2048x8192_S2048x512_0_6144 inb_S1x8192_S1x512_0_6144 inb_S512x8192_S512x512_0_6144 rfl) <|
        Chunks.cons (y_piece arg2 harg2 arg3 harg3 arg4 harg4 x1 x2 x3 (arg8.view.read (Elt F) fs0) (arg9.view.read (Elt F) fs1) (((i 0).val + 1) % 2) (n := 11) (o := 5632) (by omega) rfl inb_S64x8x8192_S64x8x512_0_0_5632 _
          (readAt_slotC arg8 (f := fs0) hu hut TC11 (k0_off38_inb i hc1) (oldSlot i) rfl rfl)
          (readAt_slotS arg9 (f := fs1) hu hut TS11 (k0_off39_inb i hc1) (oldSlot i) rfl rfl)
          inb_S2048x8192_S2048x512_0_5632 inb_S1x8192_S1x512_0_5632 inb_S512x8192_S512x512_0_5632 rfl) <|
        Chunks.cons (y_piece arg2 harg2 arg3 harg3 arg4 harg4 x1 x2 x3 (arg8.view.read (Elt F) fs0) (arg9.view.read (Elt F) fs1) (((i 0).val + 1) % 2) (n := 10) (o := 5120) (by omega) rfl inb_S64x8x8192_S64x8x512_0_0_5120 _
          (readAt_slotC arg8 (f := fs0) hu hut TC10 (k0_off38_inb i hc1) (oldSlot i) rfl rfl)
          (readAt_slotS arg9 (f := fs1) hu hut TS10 (k0_off39_inb i hc1) (oldSlot i) rfl rfl)
          inb_S2048x8192_S2048x512_0_5120 inb_S1x8192_S1x512_0_5120 inb_S512x8192_S512x512_0_5120 rfl) <|
        Chunks.cons (y_piece arg2 harg2 arg3 harg3 arg4 harg4 x1 x2 x3 (arg8.view.read (Elt F) fs0) (arg9.view.read (Elt F) fs1) (((i 0).val + 1) % 2) (n := 9) (o := 4608) (by omega) rfl inb_S64x8x8192_S64x8x512_0_0_4608 _
          (readAt_slotC arg8 (f := fs0) hu hut TC9 (k0_off38_inb i hc1) (oldSlot i) rfl rfl)
          (readAt_slotS arg9 (f := fs1) hu hut TS9 (k0_off39_inb i hc1) (oldSlot i) rfl rfl)
          inb_S2048x8192_S2048x512_0_4608 inb_S1x8192_S1x512_0_4608 inb_S512x8192_S512x512_0_4608 rfl) <|
        Chunks.cons (y_piece arg2 harg2 arg3 harg3 arg4 harg4 x1 x2 x3 (arg8.view.read (Elt F) fs0) (arg9.view.read (Elt F) fs1) (((i 0).val + 1) % 2) (n := 8) (o := 4096) (by omega) rfl inb_S64x8x8192_S64x8x512_0_0_4096 _
          (readAt_slotC arg8 (f := fs0) hu hut TC8 (k0_off38_inb i hc1) (oldSlot i) rfl rfl)
          (readAt_slotS arg9 (f := fs1) hu hut TS8 (k0_off39_inb i hc1) (oldSlot i) rfl rfl)
          inb_S2048x8192_S2048x512_0_4096 inb_S1x8192_S1x512_0_4096 inb_S512x8192_S512x512_0_4096 rfl) <|
        Chunks.cons (y_piece arg2 harg2 arg3 harg3 arg4 harg4 x1 x2 x3 (arg8.view.read (Elt F) fs0) (arg9.view.read (Elt F) fs1) (((i 0).val + 1) % 2) (n := 7) (o := 3584) (by omega) rfl inb_S64x8x8192_S64x8x512_0_0_3584 _
          (readAt_slotC arg8 (f := fs0) hu hut TC7 (k0_off38_inb i hc1) (oldSlot i) rfl rfl)
          (readAt_slotS arg9 (f := fs1) hu hut TS7 (k0_off39_inb i hc1) (oldSlot i) rfl rfl)
          inb_S2048x8192_S2048x512_0_3584 inb_S1x8192_S1x512_0_3584 inb_S512x8192_S512x512_0_3584 rfl) <|
        Chunks.cons (y_piece arg2 harg2 arg3 harg3 arg4 harg4 x1 x2 x3 (arg8.view.read (Elt F) fs0) (arg9.view.read (Elt F) fs1) (((i 0).val + 1) % 2) (n := 6) (o := 3072) (by omega) rfl inb_S64x8x8192_S64x8x512_0_0_3072 _
          (readAt_slotC arg8 (f := fs0) hu hut TC6 (k0_off38_inb i hc1) (oldSlot i) rfl rfl)
          (readAt_slotS arg9 (f := fs1) hu hut TS6 (k0_off39_inb i hc1) (oldSlot i) rfl rfl)
          inb_S2048x8192_S2048x512_0_3072 inb_S1x8192_S1x512_0_3072 inb_S512x8192_S512x512_0_3072 rfl) <|
        Chunks.cons (y_piece arg2 harg2 arg3 harg3 arg4 harg4 x1 x2 x3 (arg8.view.read (Elt F) fs0) (arg9.view.read (Elt F) fs1) (((i 0).val + 1) % 2) (n := 5) (o := 2560) (by omega) rfl inb_S64x8x8192_S64x8x512_0_0_2560 _
          (readAt_slotC arg8 (f := fs0) hu hut TC5 (k0_off38_inb i hc1) (oldSlot i) rfl rfl)
          (readAt_slotS arg9 (f := fs1) hu hut TS5 (k0_off39_inb i hc1) (oldSlot i) rfl rfl)
          inb_S2048x8192_S2048x512_0_2560 inb_S1x8192_S1x512_0_2560 inb_S512x8192_S512x512_0_2560 rfl) <|
        Chunks.cons (y_piece arg2 harg2 arg3 harg3 arg4 harg4 x1 x2 x3 (arg8.view.read (Elt F) fs0) (arg9.view.read (Elt F) fs1) (((i 0).val + 1) % 2) (n := 4) (o := 2048) (by omega) rfl inb_S64x8x8192_S64x8x512_0_0_2048 _
          (readAt_slotC arg8 (f := fs0) hu hut TC4 (k0_off38_inb i hc1) (oldSlot i) rfl rfl)
          (readAt_slotS arg9 (f := fs1) hu hut TS4 (k0_off39_inb i hc1) (oldSlot i) rfl rfl)
          inb_S2048x8192_S2048x512_0_2048 inb_S1x8192_S1x512_0_2048 inb_S512x8192_S512x512_0_2048 rfl) <|
        Chunks.cons (y_piece arg2 harg2 arg3 harg3 arg4 harg4 x1 x2 x3 (arg8.view.read (Elt F) fs0) (arg9.view.read (Elt F) fs1) (((i 0).val + 1) % 2) (n := 3) (o := 1536) (by omega) rfl inb_S64x8x8192_S64x8x512_0_0_1536 _
          (readAt_slotC arg8 (f := fs0) hu hut TC3 (k0_off38_inb i hc1) (oldSlot i) rfl rfl)
          (readAt_slotS arg9 (f := fs1) hu hut TS3 (k0_off39_inb i hc1) (oldSlot i) rfl rfl)
          inb_S2048x8192_S2048x512_0_1536 inb_S1x8192_S1x512_0_1536 inb_S512x8192_S512x512_0_1536 rfl) <|
        Chunks.cons (y_piece arg2 harg2 arg3 harg3 arg4 harg4 x1 x2 x3 (arg8.view.read (Elt F) fs0) (arg9.view.read (Elt F) fs1) (((i 0).val + 1) % 2) (n := 2) (o := 1024) (by omega) rfl inb_S64x8x8192_S64x8x512_0_0_1024 _
          (readAt_slotC arg8 (f := fs0) hu hut TC2 (k0_off38_inb i hc1) (oldSlot i) rfl rfl)
          (readAt_slotS arg9 (f := fs1) hu hut TS2 (k0_off39_inb i hc1) (oldSlot i) rfl rfl)
          inb_S2048x8192_S2048x512_0_1024 inb_S1x8192_S1x512_0_1024 inb_S512x8192_S512x512_0_1024 rfl) <|
        Chunks.cons (y_piece arg2 harg2 arg3 harg3 arg4 harg4 x1 x2 x3 (arg8.view.read (Elt F) fs0) (arg9.view.read (Elt F) fs1) (((i 0).val + 1) % 2) (n := 1) (o := 512) (by omega) rfl inb_S64x8x8192_S64x8x512_0_0_512 _
          (readAt_slotC arg8 (f := fs0) hu hut TC1 (k0_off38_inb i hc1) (oldSlot i) rfl rfl)
          (readAt_slotS arg9 (f := fs1) hu hut TS1 (k0_off39_inb i hc1) (oldSlot i) rfl rfl)
          inb_S2048x8192_S2048x512_0_512 inb_S1x8192_S1x512_0_512 inb_S512x8192_S512x512_0_512 rfl) <|
        Chunks.cons (y_piece arg2 harg2 arg3 harg3 arg4 harg4 x1 x2 x3 (arg8.view.read (Elt F) fs0) (arg9.view.read (Elt F) fs1) (((i 0).val + 1) % 2) (n := 0) (o := 0) (by omega) rfl inb_S64x8x8192_S64x8x512_0_0_0 _
          (readAt_slotC0 arg8 (f := fs0) hu  (k0_off38_inb i hc1) (oldSlot i) rfl rfl)
          (readAt_slotS0 arg9 (f := fs1) hu  (k0_off39_inb i hc1) (oldSlot i) rfl rfl)
          inb_S2048x8192_S2048x512_0_0 inb_S1x8192_S1x512_0_0 inb_S512x8192_S512x512_0_0 rfl) <|
        Chunks.nil
    isplitl [H5]
    · iexists _; isplitr; swap; · iexact H5
      ipureintro
      exact codes_read <|
        Chunks.cons (codes_piece arg1 harg1 x0 (n := 15) (o := 480) (by omega) rfl inb_S512x2048_S32x2048_480_0 inb_S512x2048_S32x2048_480_0 _ rfl) <|
        Chunks.cons (codes_piece arg1 harg1 x0 (n := 14) (o := 448) (by omega) rfl inb_S512x2048_S32x2048_448_0 inb_S512x2048_S32x2048_448_0 _ rfl) <|
        Chunks.cons (codes_piece arg1 harg1 x0 (n := 13) (o := 416) (by omega) rfl inb_S512x2048_S32x2048_416_0 inb_S512x2048_S32x2048_416_0 _ rfl) <|
        Chunks.cons (codes_piece arg1 harg1 x0 (n := 12) (o := 384) (by omega) rfl inb_S512x2048_S32x2048_384_0 inb_S512x2048_S32x2048_384_0 _ rfl) <|
        Chunks.cons (codes_piece arg1 harg1 x0 (n := 11) (o := 352) (by omega) rfl inb_S512x2048_S32x2048_352_0 inb_S512x2048_S32x2048_352_0 _ rfl) <|
        Chunks.cons (codes_piece arg1 harg1 x0 (n := 10) (o := 320) (by omega) rfl inb_S512x2048_S32x2048_320_0 inb_S512x2048_S32x2048_320_0 _ rfl) <|
        Chunks.cons (codes_piece arg1 harg1 x0 (n := 9) (o := 288) (by omega) rfl inb_S512x2048_S32x2048_288_0 inb_S512x2048_S32x2048_288_0 _ rfl) <|
        Chunks.cons (codes_piece arg1 harg1 x0 (n := 8) (o := 256) (by omega) rfl inb_S512x2048_S32x2048_256_0 inb_S512x2048_S32x2048_256_0 _ rfl) <|
        Chunks.cons (codes_piece arg1 harg1 x0 (n := 7) (o := 224) (by omega) rfl inb_S512x2048_S32x2048_224_0 inb_S512x2048_S32x2048_224_0 _ rfl) <|
        Chunks.cons (codes_piece arg1 harg1 x0 (n := 6) (o := 192) (by omega) rfl inb_S512x2048_S32x2048_192_0 inb_S512x2048_S32x2048_192_0 _ rfl) <|
        Chunks.cons (codes_piece arg1 harg1 x0 (n := 5) (o := 160) (by omega) rfl inb_S512x2048_S32x2048_160_0 inb_S512x2048_S32x2048_160_0 _ rfl) <|
        Chunks.cons (codes_piece arg1 harg1 x0 (n := 4) (o := 128) (by omega) rfl inb_S512x2048_S32x2048_128_0 inb_S512x2048_S32x2048_128_0 _ rfl) <|
        Chunks.cons (codes_piece arg1 harg1 x0 (n := 3) (o := 96) (by omega) rfl inb_S512x2048_S32x2048_96_0 inb_S512x2048_S32x2048_96_0 _ rfl) <|
        Chunks.cons (codes_piece arg1 harg1 x0 (n := 2) (o := 64) (by omega) rfl inb_S512x2048_S32x2048_64_0 inb_S512x2048_S32x2048_64_0 _ rfl) <|
        Chunks.cons (codes_piece arg1 harg1 x0 (n := 1) (o := 32) (by omega) rfl inb_S512x2048_S32x2048_32_0 inb_S512x2048_S32x2048_32_0 _ rfl) <|
        Chunks.cons (codes_piece arg1 harg1 x0 (n := 0) (o := 0) (by omega) rfl inb_S512x2048_S32x2048_0_0 inb_S512x2048_S32x2048_0_0 _ rfl) <|
        Chunks.nil
    isplitl [H6]
    · iexists _; isplitr; swap
      · iexists _; isplitr; swap; · iexact H6
        ipureintro; rfl
      ipureintro
      subst hf6
      refine xsStep_of arg7 x0 f6 (k0_off76_inb i hc1) (xsRow i) rfl _ ?_
      exact tileXs_of x0
        (readAt_quarter arg9 x0 (n := 0) (by omega) arg9.view.junk TS16 (k0_off72_inb i hc1) (newSlot i) rfl rfl)
        (readAt_quarter arg9 x0 (n := 1) (by omega) arg9.view.junk TS16 (k0_off73_inb i hc1) (newSlot i) rfl rfl)
        (readAt_quarter arg9 x0 (n := 2) (by omega) arg9.view.junk TS16 (k0_off74_inb i hc1) (newSlot i) rfl rfl)
        (readAt_quarter arg9 x0 (n := 3) (by omega) arg9.view.junk TS16 (k0_off75_inb i hc1) (newSlot i) rfl rfl)
    isplitl [HS0]
    · iexists _; isplitr; swap
      · iexists _; isplitr; swap; · iexact HS0
        ipureintro; rfl
      ipureintro
      exact slotC_read <|
        Chunks.cons (codes3_piece arg1 harg1 x0 (n := 15) (o := 480) (by omega) rfl (k0_off70_inb i hc1) (newSlot i) rfl rfl inb_S512x2048_S32x2048_480_0 _ rfl) TC15
    iexists _; isplitr; swap
    · iexists _; isplitr; swap; · iexact HS1
      ipureintro; rfl
    ipureintro
    exact slotS_read TS16

end Cert.KernelIdeal.Hand

end
-- ==== Proof.RunC.lean ====
/- The body at the last grid point, which multiplies the previous tile. -/
module

public import proofs.«01_k».proof.Proof.RunB

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple at the last point: the output's block ends at the tile output of the codes and scales that slot
    `(s + 1) % 2` of the scratch held; the codes' block and the scales are left alone. -/
theorem kernelRun0_C (c : Dev nD) (i : grid0.Coords) (arg1 : Memref sig .tc .vmem S512x2048 .bf16) (harg1 : arg1.IsWhole) (arg2 : Memref sig .tc .vmem S2048x8192 .fp8e4m3) (harg2 : arg2.IsWhole) (arg3 : Memref sig .tc .vmem S1x8192 .f32) (harg3 : arg3.IsWhole) (arg4 : Memref sig .tc .vmem S512x8192 .bf16) (harg4 : arg4.IsWhole) (arg5 : Memref sig .tc .vmem S64x8x8192 .bf16) (harg5 : arg5.IsWhole) (arg6 : Memref sig .tc .vmem S512x2048 .fp8e4m3) (harg6 : arg6.IsWhole) (arg7 : Memref sig .tc .vmem S192x128 .f32) (harg7 : arg7.IsWhole) (arg8 : Memref sig .tc .vmem S2x512x2048 .fp8e4m3) (harg8 : arg8.IsWhole) (arg9 : Memref sig .tc .vmem S2x512x128 .f32) (harg9 : arg9.IsWhole) (hc0 : ¬cond0_0 i) (hc1 : ¬cond0_1 i) (hc2 : cond0_2 i)
    (x0 : Vec F S512x2048 .bf16) (x1 : Vec F S2048x8192 .fp8e4m3) (x2 : Vec F S1x8192 .f32) (x3 : Vec F S512x8192 .bf16) (d6 : Vec F S192x128 .f32) (d5 : Vec F S512x2048 .fp8e4m3) (a : Vec F S2x512x2048 .fp8e4m3) (sc : Vec F S2x512x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare d5 ∗ owns (c : Thread nD τ) arg7 fullShare d6 ∗ owns (c : Thread nD τ) arg8 fullShare a ∗ owns (c : Thread nD τ) arg9 fullShare sc
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (tileY a sc (((i 0).val + 1) % 2) x1 x2 x3) ∗ owns (c : Thread nD τ) arg6 fullShare d5 ∗ owns (c : Thread nD τ) arg7 fullShare d6 ∗ (∃ d, owns (c : Thread nD τ) arg8 fullShare d) ∗ (∃ d, owns (c : Thread nD τ) arg9 fullShare d)) -∗ K ⟨⟩))
          ⊢ wp frame (wpE (defs₀ (F := F)) Variants.none c none) E (cc0_attn_out_proj_fp8 i arg1 harg1 arg2 harg2 arg3 harg3 arg4 harg4 arg5 harg5 arg6 harg6 arg7 harg7 arg8 harg8 arg9 harg9) K := by
    intro E K
    simp only [cc0_attn_out_proj_fp8_eq_skeleton]; unfold cc0_attn_out_proj_fp8_skel
    rw [k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    sl_exec (disch := first | sl_exact hc0 | sl_exact hc1 | sl_exact hc2)
    sl_step
    iapply Hk
    have hu : ((i 0).val + 1) % 2 < 2 := Nat.mod_lt _ (by decide)
    have hut : ((i 0).val + 1) % 2 ≠ (i 0).val % 2 := by omega
    subst hfs0 hfs1
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      exact y_read <|
        Chunks.cons (y_piece arg2 harg2 arg3 harg3 arg4 harg4 x1 x2 x3 (arg8.view.read (Elt F) fs0) (arg9.view.read (Elt F) fs1) (((i 0).val + 1) % 2) (n := 15) (o := 7680) (by omega) rfl inb_S64x8x8192_S64x8x512_0_0_7680 _
          (readAt_slotC0 arg8 (f := fs0) hu  (k0_off77_inb i hc2) (oldSlot i) rfl rfl)
          (readAt_slotS0 arg9 (f := fs1) hu  (k0_off78_inb i hc2) (oldSlot i) rfl rfl)
          inb_S2048x8192_S2048x512_0_7680 inb_S1x8192_S1x512_0_7680 inb_S512x8192_S512x512_0_7680 rfl) <|
        Chunks.cons (y_piece arg2 harg2 arg3 harg3 arg4 harg4 x1 x2 x3 (arg8.view.read (Elt F) fs0) (arg9.view.read (Elt F) fs1) (((i 0).val + 1) % 2) (n := 14) (o := 7168) (by omega) rfl inb_S64x8x8192_S64x8x512_0_0_7168 _
          (readAt_slotC0 arg8 (f := fs0) hu  (k0_off77_inb i hc2) (oldSlot i) rfl rfl)
          (readAt_slotS0 arg9 (f := fs1) hu  (k0_off78_inb i hc2) (oldSlot i) rfl rfl)
          inb_S2048x8192_S2048x512_0_7168 inb_S1x8192_S1x512_0_7168 inb_S512x8192_S512x512_0_7168 rfl) <|
        Chunks.cons (y_piece arg2 harg2 arg3 harg3 arg4 harg4 x1 x2 x3 (arg8.view.read (Elt F) fs0) (arg9.view.read (Elt F) fs1) (((i 0).val + 1) % 2) (n := 13) (o := 6656) (by omega) rfl inb_S64x8x8192_S64x8x512_0_0_6656 _
          (readAt_slotC0 arg8 (f := fs0) hu  (k0_off77_inb i hc2) (oldSlot i) rfl rfl)
          (readAt_slotS0 arg9 (f := fs1) hu  (k0_off78_inb i hc2) (oldSlot i) rfl rfl)
          inb_S2048x8192_S2048x512_0_6656 inb_S1x8192_S1x512_0_6656 inb_S512x8192_S512x512_0_6656 rfl) <|
        Chunks.cons (y_piece arg2 harg2 arg3 harg3 arg4 harg4 x1 x2 x3 (arg8.view.read (Elt F) fs0) (arg9.view.read (Elt F) fs1) (((i 0).val + 1) % 2) (n := 12) (o := 6144) (by omega) rfl inb_S64x8x8192_S64x8x512_0_0_6144 _
          (readAt_slotC0 arg8 (f := fs0) hu  (k0_off77_inb i hc2) (oldSlot i) rfl rfl)
          (readAt_slotS0 arg9 (f := fs1) hu  (k0_off78_inb i hc2) (oldSlot i) rfl rfl)
          inb_S2048x8192_S2048x512_0_6144 inb_S1x8192_S1x512_0_6144 inb_S512x8192_S512x512_0_6144 rfl) <|
        Chunks.cons (y_piece arg2 harg2 arg3 harg3 arg4 harg4 x1 x2 x3 (arg8.view.read (Elt F) fs0) (arg9.view.read (Elt F) fs1) (((i 0).val + 1) % 2) (n := 11) (o := 5632) (by omega) rfl inb_S64x8x8192_S64x8x512_0_0_5632 _
          (readAt_slotC0 arg8 (f := fs0) hu  (k0_off77_inb i hc2) (oldSlot i) rfl rfl)
          (readAt_slotS0 arg9 (f := fs1) hu  (k0_off78_inb i hc2) (oldSlot i) rfl rfl)
          inb_S2048x8192_S2048x512_0_5632 inb_S1x8192_S1x512_0_5632 inb_S512x8192_S512x512_0_5632 rfl) <|
        Chunks.cons (y_piece arg2 harg2 arg3 harg3 arg4 harg4 x1 x2 x3 (arg8.view.read (Elt F) fs0) (arg9.view.read (Elt F) fs1) (((i 0).val + 1) % 2) (n := 10) (o := 5120) (by omega) rfl inb_S64x8x8192_S64x8x512_0_0_5120 _
          (readAt_slotC0 arg8 (f := fs0) hu  (k0_off77_inb i hc2) (oldSlot i) rfl rfl)
          (readAt_slotS0 arg9 (f := fs1) hu  (k0_off78_inb i hc2) (oldSlot i) rfl rfl)
          inb_S2048x8192_S2048x512_0_5120 inb_S1x8192_S1x512_0_5120 inb_S512x8192_S512x512_0_5120 rfl) <|
        Chunks.cons (y_piece arg2 harg2 arg3 harg3 arg4 harg4 x1 x2 x3 (arg8.view.read (Elt F) fs0) (arg9.view.read (Elt F) fs1) (((i 0).val + 1) % 2) (n := 9) (o := 4608) (by omega) rfl inb_S64x8x8192_S64x8x512_0_0_4608 _
          (readAt_slotC0 arg8 (f := fs0) hu  (k0_off77_inb i hc2) (oldSlot i) rfl rfl)
          (readAt_slotS0 arg9 (f := fs1) hu  (k0_off78_inb i hc2) (oldSlot i) rfl rfl)
          inb_S2048x8192_S2048x512_0_4608 inb_S1x8192_S1x512_0_4608 inb_S512x8192_S512x512_0_4608 rfl) <|
        Chunks.cons (y_piece arg2 harg2 arg3 harg3 arg4 harg4 x1 x2 x3 (arg8.view.read (Elt F) fs0) (arg9.view.read (Elt F) fs1) (((i 0).val + 1) % 2) (n := 8) (o := 4096) (by omega) rfl inb_S64x8x8192_S64x8x512_0_0_4096 _
          (readAt_slotC0 arg8 (f := fs0) hu  (k0_off77_inb i hc2) (oldSlot i) rfl rfl)
          (readAt_slotS0 arg9 (f := fs1) hu  (k0_off78_inb i hc2) (oldSlot i) rfl rfl)
          inb_S2048x8192_S2048x512_0_4096 inb_S1x8192_S1x512_0_4096 inb_S512x8192_S512x512_0_4096 rfl) <|
        Chunks.cons (y_piece arg2 harg2 arg3 harg3 arg4 harg4 x1 x2 x3 (arg8.view.read (Elt F) fs0) (arg9.view.read (Elt F) fs1) (((i 0).val + 1) % 2) (n := 7) (o := 3584) (by omega) rfl inb_S64x8x8192_S64x8x512_0_0_3584 _
          (readAt_slotC0 arg8 (f := fs0) hu  (k0_off77_inb i hc2) (oldSlot i) rfl rfl)
          (readAt_slotS0 arg9 (f := fs1) hu  (k0_off78_inb i hc2) (oldSlot i) rfl rfl)
          inb_S2048x8192_S2048x512_0_3584 inb_S1x8192_S1x512_0_3584 inb_S512x8192_S512x512_0_3584 rfl) <|
        Chunks.cons (y_piece arg2 harg2 arg3 harg3 arg4 harg4 x1 x2 x3 (arg8.view.read (Elt F) fs0) (arg9.view.read (Elt F) fs1) (((i 0).val + 1) % 2) (n := 6) (o := 3072) (by omega) rfl inb_S64x8x8192_S64x8x512_0_0_3072 _
          (readAt_slotC0 arg8 (f := fs0) hu  (k0_off77_inb i hc2) (oldSlot i) rfl rfl)
          (readAt_slotS0 arg9 (f := fs1) hu  (k0_off78_inb i hc2) (oldSlot i) rfl rfl)
          inb_S2048x8192_S2048x512_0_3072 inb_S1x8192_S1x512_0_3072 inb_S512x8192_S512x512_0_3072 rfl) <|
        Chunks.cons (y_piece arg2 harg2 arg3 harg3 arg4 harg4 x1 x2 x3 (arg8.view.read (Elt F) fs0) (arg9.view.read (Elt F) fs1) (((i 0).val + 1) % 2) (n := 5) (o := 2560) (by omega) rfl inb_S64x8x8192_S64x8x512_0_0_2560 _
          (readAt_slotC0 arg8 (f := fs0) hu  (k0_off77_inb i hc2) (oldSlot i) rfl rfl)
          (readAt_slotS0 arg9 (f := fs1) hu  (k0_off78_inb i hc2) (oldSlot i) rfl rfl)
          inb_S2048x8192_S2048x512_0_2560 inb_S1x8192_S1x512_0_2560 inb_S512x8192_S512x512_0_2560 rfl) <|
        Chunks.cons (y_piece arg2 harg2 arg3 harg3 arg4 harg4 x1 x2 x3 (arg8.view.read (Elt F) fs0) (arg9.view.read (Elt F) fs1) (((i 0).val + 1) % 2) (n := 4) (o := 2048) (by omega) rfl inb_S64x8x8192_S64x8x512_0_0_2048 _
          (readAt_slotC0 arg8 (f := fs0) hu  (k0_off77_inb i hc2) (oldSlot i) rfl rfl)
          (readAt_slotS0 arg9 (f := fs1) hu  (k0_off78_inb i hc2) (oldSlot i) rfl rfl)
          inb_S2048x8192_S2048x512_0_2048 inb_S1x8192_S1x512_0_2048 inb_S512x8192_S512x512_0_2048 rfl) <|
        Chunks.cons (y_piece arg2 harg2 arg3 harg3 arg4 harg4 x1 x2 x3 (arg8.view.read (Elt F) fs0) (arg9.view.read (Elt F) fs1) (((i 0).val + 1) % 2) (n := 3) (o := 1536) (by omega) rfl inb_S64x8x8192_S64x8x512_0_0_1536 _
          (readAt_slotC0 arg8 (f := fs0) hu  (k0_off77_inb i hc2) (oldSlot i) rfl rfl)
          (readAt_slotS0 arg9 (f := fs1) hu  (k0_off78_inb i hc2) (oldSlot i) rfl rfl)
          inb_S2048x8192_S2048x512_0_1536 inb_S1x8192_S1x512_0_1536 inb_S512x8192_S512x512_0_1536 rfl) <|
        Chunks.cons (y_piece arg2 harg2 arg3 harg3 arg4 harg4 x1 x2 x3 (arg8.view.read (Elt F) fs0) (arg9.view.read (Elt F) fs1) (((i 0).val + 1) % 2) (n := 2) (o := 1024) (by omega) rfl inb_S64x8x8192_S64x8x512_0_0_1024 _
          (readAt_slotC0 arg8 (f := fs0) hu  (k0_off77_inb i hc2) (oldSlot i) rfl rfl)
          (readAt_slotS0 arg9 (f := fs1) hu  (k0_off78_inb i hc2) (oldSlot i) rfl rfl)
          inb_S2048x8192_S2048x512_0_1024 inb_S1x8192_S1x512_0_1024 inb_S512x8192_S512x512_0_1024 rfl) <|
        Chunks.cons (y_piece arg2 harg2 arg3 harg3 arg4 harg4 x1 x2 x3 (arg8.view.read (Elt F) fs0) (arg9.view.read (Elt F) fs1) (((i 0).val + 1) % 2) (n := 1) (o := 512) (by omega) rfl inb_S64x8x8192_S64x8x512_0_0_512 _
          (readAt_slotC0 arg8 (f := fs0) hu  (k0_off77_inb i hc2) (oldSlot i) rfl rfl)
          (readAt_slotS0 arg9 (f := fs1) hu  (k0_off78_inb i hc2) (oldSlot i) rfl rfl)
          inb_S2048x8192_S2048x512_0_512 inb_S1x8192_S1x512_0_512 inb_S512x8192_S512x512_0_512 rfl) <|
        Chunks.cons (y_piece arg2 harg2 arg3 harg3 arg4 harg4 x1 x2 x3 (arg8.view.read (Elt F) fs0) (arg9.view.read (Elt F) fs1) (((i 0).val + 1) % 2) (n := 0) (o := 0) (by omega) rfl inb_S64x8x8192_S64x8x512_0_0_0 _
          (readAt_slotC0 arg8 (f := fs0) hu  (k0_off77_inb i hc2) (oldSlot i) rfl rfl)
          (readAt_slotS0 arg9 (f := fs1) hu  (k0_off78_inb i hc2) (oldSlot i) rfl rfl)
          inb_S2048x8192_S2048x512_0_0 inb_S1x8192_S1x512_0_0 inb_S512x8192_S512x512_0_0 rfl) <|
        Chunks.nil
    isplitl [H5]
    · iexists _; isplitr; swap; · iexact H5
      ipureintro; exact hf5
    isplitl [H6]
    · iexists _; isplitr; swap; · iexact H6
      ipureintro; exact hf6
    isplitl [HS0]
    · iexists _, _; isplitr; swap; · iexact HS0
      ipureintro; rfl
    iexists _, _; isplitr; swap; · iexact HS1
    ipureintro; rfl

end Cert.KernelIdeal.Hand

end
-- ==== Proof.Track.lean ====
/- What the run of the kernel keeps from point to point: the proof data of its one pipeline. The outputs' blocks are
   held to a predicate (`Left`), the scratch to the codes and scales of the tile quantised at the point before (`Carried`). -/
module

public import proofs.«01_k».proof.Proof.RunC
public import Idealize.ShloMosaic.Lib.Pipeline.DatRel

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks, and what each point leaves -/

/-- There are 49 points. -/
theorem lt49 (t : Fin cfg0.N) : t.val < 49 := lt_of_lt_of_eq t.isLt (show cfg0.N = 49 from N_0)

/-- Point `n` of the grid, the last one for a number beyond it. -/
def pt (n : ℕ) : Fin cfg0.N := ⟨min n 48, lt_of_le_of_lt (Nat.min_le_right n 48) (by rw [show cfg0.N = 49 from N_0]; decide)⟩

theorem pt_val (t : Fin cfg0.N) : pt t.val = t := Fin.ext (by have := lt49 t; show min t.val 48 = t.val; omega)

/-- The grid's one coordinate is the point's number. -/
theorem coord0 (t : Fin cfg0.N) : (grid0.coords t 0).val = t.val := by
  have ht := lt49 t
  have e0 : (grid0.coords t 0).val = t.val / 1 % 49 := Pipeline.Grid.coords_val t 0 (by decide) rfl
  omega

/-- The tile of activations that point `n` reads, -/
def tileX (c : Dev nD) (n : ℕ) : Vec F S512x2048 .bf16 := iblk m c 0 (pt n)
/-- the weights, -/
def weights (c : Dev nD) (n : ℕ) : Vec F S2048x8192 .fp8e4m3 := iblk m c 1 (pt n)
/-- their scales, -/
def wScales (c : Dev nD) (n : ℕ) : Vec F S1x8192 .f32 := iblk m c 2 (pt n)
/-- and the tile of the residual. -/
def tileRes (c : Dev nD) (n : ℕ) : Vec F S512x8192 .bf16 := iblk m c 3 (pt n)

/-- The output's block after point `n + 1`: the tile quantised at point `n`, multiplied. -/
def blockY (c : Dev nD) (n : ℕ) : Vec F S64x8x8192 .bf16 :=
  tileY (tileCodes3 (tileX m c n)) (tileScale3 (tileX m c n)) n (weights m c (n + 1)) (wScales m c (n + 1)) (tileRes m c (n + 1))

/-- The tile's output looks at the scratch in one slot only. -/
theorem tileY_congr {a a' : Vec F S2x512x2048 .fp8e4m3} {sc sc' : Vec F S2x512x128 .f32} {o o' : ℕ} (ho : o % 2 = o' % 2)
    (ha : ∀ y : S2x512x2048.Idx, (y 0).val = o' % 2 → a y = a' y) (hs : ∀ y : S2x512x128.Idx, (y 0).val = o' % 2 → sc y = sc' y)
    (w : Vec F S2048x8192 .fp8e4m3) (ws : Vec F S1x8192 .f32) (res : Vec F S512x8192 .bf16) :
    tileY a sc o w ws res = tileY a' sc' o' w ws res := by
  have e1 : slotC a o = slotC a' o' := funext fun j => by
    unfold slotC; simp only [ho]
    exact ha _ rfl
  have e2 : slotS sc o = slotS sc' o' := funext fun j => by
    unfold slotS; simp only [ho]
    exact hs _ rfl
  unfold tileY; rw [e1, e2]

/-- Rows of the resident scales done by point `n`: those of every tile up to `n` hold the tile's scales. -/
def XsDone (c : Dev nD) (n : ℕ) (X : Vec F S192x128 .f32) : Prop :=
  ∀ u : ℕ, u ≤ n → u < 48 → ∀ (a : Fin 4) (b : Fin 128) (h : 4 * u + a.val < 192),
    X (ix2 (⟨4 * u + a.val, h⟩ : Fin 192) b) = tileXs (tileX m c u) (ix2 a b)

/-- What the body leaves in an output's block at point `t`: the output of the tile before, the tile's codes (the last
    tile's at the last point, which writes none), and the scales of every tile so far. -/
def Left (c : Dev nD) (w : Fin cfg0.W) (t : Fin cfg0.N) (X : (cfg0.win w).block.Idx → Elt F (cfg0.win w).elt) : Prop :=
  match w with
  | ⟨0, _⟩ => True
  | ⟨1, _⟩ => True
  | ⟨2, _⟩ => True
  | ⟨3, _⟩ => True
  | ⟨4, _⟩ => ∀ n : ℕ, t.val = n + 1 → X = blockY m c n
  | ⟨5, _⟩ => X = tileCodes (tileX m c (min t.val 47))
  | ⟨6, _⟩ => XsDone m c t.val X

/-- The outputs' windows. -/
def marked : Fin 7 → Bool := fun w => w.val == 4 || w.val == 5 || w.val == 6

/-- Before point `t`, the scratch holds the codes and scales of the tile quantised at the point before. -/
def Carried (c : Dev nD) (t : ℕ) : sProp 𝕄 :=
  iprop(iprop((∃ d, ⌜∀ n : ℕ, t = n + 1 → n < 48 → SlotC (tileX m c n) n d⌝ ∗ owns (c : Thread nD τ) scM0_0 fullShare d)
    ∗ (∃ d, ⌜∀ n : ℕ, t = n + 1 → n < 48 → SlotS (tileX m c n) n d⌝ ∗ owns (c : Thread nD τ) scM0_1 fullShare d)) ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ t := Carried m c t.val
  q _ := fullShare
  owed _ := 0

/-- The relational data: the outputs' windows at what `Left` says. -/
def rdats (c : Dev nD) : Pipeline.RDat τ (Elt F) Unit ℕ (UR sig nD τ) ℕ cfg0 c := (dats m 0 c).toRRel marked (Left m c)

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## What the body finds in the outputs' buffers -/

/-- The codes' block stays on the last tile at the last point, -/
theorem flush5 : ∀ t : Fin cfg0.N, t.val = 47 → (cfg0.win 5).flush t = false :=
  (by decide +kernel : ∀ t : Fin grid0.N, t.val = 47 → win0_5.flush t = false)

/-- so it is not written back at the last point but one, and the last point finds the last tile's codes. -/
theorem finds5 (c : Dev nD) (t : Fin cfg0.N) (ht : t.val = 48) {Y : Vec F S512x2048 .fp8e4m3} (h : (rdats m c).Finds 5 t Y) :
    Y = tileCodes (tileX m c 47) := by
  have h47 : ∀ u : Fin cfg0.N, u.val = 47 → Left m c 5 u Y → Y = tileCodes (tileX m c 47) := fun u hu hl => by
    have hl' : Y = tileCodes (tileX m c (min u.val 47)) := hl
    rwa [hu] at hl'
  rcases ((rdats m c).finds_of_pos (w := 5) (t := t) rfl (by omega) Y).mp h with hf | hl
  · rw [flush5 _ (show t.val - 1 = 47 by omega)] at hf
    exact absurd hf Bool.false_ne_true
  · exact h47 _ (show t.val - 1 = 47 by omega) ((dats m 0 c).toRRel_leaves (fgt := marked) (Rl := Left m c) (w := 5) rfl hl)

/-- The scales stay in place from the first point to the last. -/
theorem finds6 (c : Dev nD) (t : Fin cfg0.N) (ht : t.val ≠ 0) {Y : Vec F S192x128 .f32} (h : (rdats m c).Finds 6 t Y) :
    XsDone m c (t.val - 1) Y := by
  rcases ((rdats m c).finds_of_pos (w := 6) (t := t) rfl ht Y).mp h with hf | hl
  · have h48 := (flush0_6 _).mp hf
    have := lt49 t
    dsimp only at h48
    omega
  · exact (dats m 0 c).toRRel_leaves (fgt := marked) (Rl := Left m c) (w := 6) rfl hl

/-- One more tile's rows. -/
theorem XsDone.step {c : Dev nD} {n : ℕ} (hn : n < 48) {X X' : Vec F S192x128 .f32} (hX : n ≠ 0 → XsDone m c (n - 1) X)
    (h : XsStep (tileX m c n) n X X') : XsDone m c n X' := by
  intro u hu hu' a b hb
  by_cases e : u = n
  · subst e; exact h.1 a b hb
  · rw [h.2 _ b (Or.inl (by show 4 * u + a.val < 4 * n; have := a.isLt; omega))]
    exact hX (by omega) u (by omega) hu' a b hb

theorem XsDone.last {c : Dev nD} {X : Vec F S192x128 .f32} (h : XsDone m c 47 X) : XsDone m c 48 X :=
  fun u hu hu' a b hb => h u (by omega) hu' a b hb

end Cert.KernelIdeal.Hand

end
-- ==== Proof.KernelRun.lean ====
/- The run of the kernel: the body's triple at every point from its three cases, the launch, and the frame claim. -/
module

public import proofs.«01_k».proof.Proof.Track
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at any point -/

/-- The output's block, of a scratch that holds the tile quantised at the point before. -/
theorem left4 (c : Dev nD) (t : Fin cfg0.N) (a : Vec F S2x512x2048 .fp8e4m3) (sc : Vec F S2x512x128 .f32) (h48 : t.val ≤ 48)
    (ha : ∀ n : ℕ, t.val = n + 1 → n < 48 → SlotC (tileX m c n) n a) (hs : ∀ n : ℕ, t.val = n + 1 → n < 48 → SlotS (tileX m c n) n sc) :
    ∀ n : ℕ, t.val = n + 1 → tileY a sc (((grid0.coords t 0).val + 1) % 2) (iblk m c 1 t) (iblk m c 2 t) (iblk m c 3 t) = blockY m c n := by
  intro n hn
  have e : pt (n + 1) = t := by rw [← hn]; exact pt_val t
  unfold blockY weights wScales tileRes
  rw [coord0, e]
  exact tileY_congr (by omega) (ha n hn (by omega)) (hs n hn (by omega)) _ _ _

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ Y, ⌜(rdats m c).Finds 4 t Y⌝ ∗ owns (c : Thread nD τ) (ms0_4 t) fullShare Y)
    ∗ (∃ Y, ⌜(rdats m c).Finds 5 t Y⌝ ∗ owns (c : Thread nD τ) (ms0_5 t) fullShare Y)
    ∗ (∃ Y, ⌜(rdats m c).Finds 6 t Y⌝ ∗ owns (c : Thread nD τ) (ms0_6 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ (∃ X, ⌜Left m c 4 t X⌝ ∗ owns (c : Thread nD τ) (ms0_4 t) fullShare X)
    ∗ (∃ X, ⌜Left m c 5 t X⌝ ∗ owns (c : Thread nD τ) (ms0_5 t) fullShare X)
    ∗ (∃ X, ⌜Left m c 6 t X⌝ ∗ owns (c : Thread nD τ) (ms0_6 t) fullShare X))

set_option maxHeartbeats 2400000 in
/-- The body at any point: its closed-form conditions say which of the three cases the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.castSucc = Carried m c t.val from rfl, show (dats m 0 c).Φ t.succ = Carried m c (t.val + 1) from rfl]
  unfold Carried
  have hN : t.val < 49 := lt49 t
  have hx : tileX m c t.val = iblk m c 0 t := by unfold tileX; rw [pt_val]
  by_cases h0 : t.val % 49 = 0
  · have h1 : ¬(1 ≤ t.val % 49 ∧ t.val % 49 ≤ 47) := by omega
    have h2 : ¬t.val % 49 = 48 := by omega
    iintro ⟨⟨⟨⟨%a, %ha, HS0⟩, ⟨%sc, %hs, HS1⟩⟩, Hg⟩, Ho, ⟨%d0, H0⟩, ⟨%d1, H1⟩, ⟨%d2, H2⟩, ⟨%d3, H3⟩, ⟨%Y4, %hY4, H4⟩, ⟨%Y5, %hY5, H5⟩, ⟨%Y6, %hY6, H6⟩⟩
    iapply ((kernelRun0_A c (grid0.coords t) _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) Y6) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [HS0]; · iexists _; iexact HS0
    isplitl [HS1]; · iexists _; iexact HS1
    iintro ⟨H0, H1, H2, H3, ⟨%X4, H4⟩, H5, ⟨%X6, %hX6, H6⟩, ⟨%b, %hb, HS0⟩, ⟨%sd, %hd, HS1⟩⟩
    isplitl [HS0 HS1 Hg]
    · isplitl [HS0 HS1]
      · isplitl [HS0]
        · iexists _; isplitr; swap; · iexact HS0
          ipureintro
          intro n hn hn'; obtain rfl : t.val = n := by omega
          rw [coord0] at hb; rw [← hx] at hb; exact hb
        iexists _; isplitr; swap; · iexact HS1
        ipureintro
        intro n hn hn'; obtain rfl : t.val = n := by omega
        rw [coord0] at hd; rw [← hx] at hd; exact hd
      iexact Hg
    isplitl [Ho]; · iexact Ho
    isplitl [H0]; · iexact H0
    isplitl [H1]; · iexact H1
    isplitl [H2]; · iexact H2
    isplitl [H3]; · iexact H3
    isplitl [H4]
    · iexists _; isplitr; swap; · iexact H4
      ipureintro
      intro n hn; omega
    isplitl [H5]
    · iexists _; isplitr; swap; · iexact H5
      ipureintro
      show tileCodes (iblk m c 0 t) = tileCodes (tileX m c (min t.val 47))
      rw [show min t.val 47 = t.val by omega, hx]
    iexists _; isplitr; swap; · iexact H6
    ipureintro
    rw [coord0, ← hx] at hX6
    exact XsDone.step m (by omega) (fun h => finds6 m c t h hY6) hX6
  · by_cases h1 : (1 ≤ t.val % 49 ∧ t.val % 49 ≤ 47)
    · have h2 : ¬t.val % 49 = 48 := by omega
      iintro ⟨⟨⟨⟨%a, %ha, HS0⟩, ⟨%sc, %hs, HS1⟩⟩, Hg⟩, Ho, ⟨%d0, H0⟩, ⟨%d1, H1⟩, ⟨%d2, H2⟩, ⟨%d3, H3⟩, ⟨%Y4, %hY4, H4⟩, ⟨%Y5, %hY5, H5⟩, ⟨%Y6, %hY6, H6⟩⟩
      iapply ((kernelRun0_B c (grid0.coords t) _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) Y6 a sc) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexact H6
      isplitl [HS0]; · iexact HS0
      isplitl [HS1]; · iexact HS1
      iintro ⟨H0, H1, H2, H3, H4, H5, ⟨%X6, %hX6, H6⟩, ⟨%b, %hb, HS0⟩, ⟨%sd, %hd, HS1⟩⟩
      isplitl [HS0 HS1 Hg]
      · isplitl [HS0 HS1]
        · isplitl [HS0]
          · iexists _; isplitr; swap; · iexact HS0
            ipureintro
            intro n hn hn'; obtain rfl : t.val = n := by omega
            rw [coord0] at hb; rw [← hx] at hb; exact hb
          iexists _; isplitr; swap; · iexact HS1
          ipureintro
          intro n hn hn'; obtain rfl : t.val = n := by omega
          rw [coord0] at hd; rw [← hx] at hd; exact hd
        iexact Hg
      isplitl [Ho]; · iexact Ho
      isplitl [H0]; · iexact H0
      isplitl [H1]; · iexact H1
      isplitl [H2]; · iexact H2
      isplitl [H3]; · iexact H3
      isplitl [H4]
      · iexists _; isplitr; swap; · iexact H4
        ipureintro
        exact left4 m c t a sc (by omega) ha hs
      isplitl [H5]
      · iexists _; isplitr; swap; · iexact H5
        ipureintro
        show tileCodes (iblk m c 0 t) = tileCodes (tileX m c (min t.val 47))
        rw [show min t.val 47 = t.val by omega, hx]
      iexists _; isplitr; swap; · iexact H6
      ipureintro
      rw [coord0, ← hx] at hX6
      exact XsDone.step m (by omega) (fun h => finds6 m c t h hY6) hX6
    · have h2 : t.val % 49 = 48 := by omega
      iintro ⟨⟨⟨⟨%a, %ha, HS0⟩, ⟨%sc, %hs, HS1⟩⟩, Hg⟩, Ho, ⟨%d0, H0⟩, ⟨%d1, H1⟩, ⟨%d2, H2⟩, ⟨%d3, H3⟩, ⟨%Y4, %hY4, H4⟩, ⟨%Y5, %hY5, H5⟩, ⟨%Y6, %hY6, H6⟩⟩
      iapply ((kernelRun0_C c (grid0.coords t) _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) Y6 Y5 a sc) Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, H4, H5, H6, ⟨%b, HS0⟩, ⟨%sd, HS1⟩⟩
      isplitl [HS0 HS1 Hg]
      · isplitl [HS0 HS1]
        · isplitl [HS0]
          · iexists _; isplitr; swap; · iexact HS0
            ipureintro
            intro n hn hn'; omega
          iexists _; isplitr; swap; · iexact HS1
          ipureintro
          intro n hn hn'; omega
        iexact Hg
      isplitl [Ho]; · iexact Ho
      isplitl [H0]; · iexact H0
      isplitl [H1]; · iexact H1
      isplitl [H2]; · iexact H2
      isplitl [H3]; · iexact H3
      isplitl [H4]
      · iexists _; isplitr; swap; · iexact H4
        ipureintro
        exact left4 m c t a sc (by omega) ha hs
      isplitl [H5]
      · iexists _; isplitr; swap; · iexact H5
        ipureintro
        show Y5 = tileCodes (tileX m c (min t.val 47))
        rw [show min t.val 47 = 47 by omega]; exact finds5 m c t (by omega) hY5
      iexists _; isplitr; swap; · iexact H6
      ipureintro
      show XsDone m c t.val Y6
      have := finds6 m c t (by omega) hY6
      rw [show t.val - 1 = 47 by omega] at this
      rw [show t.val = 48 by omega]; exact XsDone.last m this

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) :
    BodyObligationRel (dats (F := F) m 0 c) (defs₀ (F := F)) Variants.none () Set.univ marked (Left m c) := fun t => by
  rw [bigSep_W0, bigSep_W0, defs₀_row]
  exact triple_restated (sound_body m c t) rfl .rfl fun _ => .rfl

/-! ## The run and the frame -/

/-- The scratch at the launch and at the end: at some contents. -/
theorem carried_in (c : Dev nD) : Pipeline.ΦA spec0 c ⊢ Carried (F := F) m c 0 := by
  rw [PhiA0_eq]; unfold Carried
  iintro ⟨⟨⟨%a, HS0⟩, ⟨%sc, HS1⟩⟩, Hg⟩
  isplitl [HS0 HS1]
  · isplitl [HS0]
    · iexists a; isplitr; swap; · iexact HS0
      ipureintro; intro n hn; omega
    iexists sc; isplitr; swap; · iexact HS1
    ipureintro; intro n hn; omega
  iexact Hg

theorem carried_out (c : Dev nD) (t : ℕ) : Carried (F := F) m c t ⊢ Pipeline.ΦA spec0 c := by
  rw [PhiA0_eq]; unfold Carried
  iintro ⟨⟨⟨%a, %ha, HS0⟩, ⟨%sc, %hs, HS1⟩⟩, Hg⟩
  isplitl [HS0 HS1]
  · isplitl [HS0]
    · iexists a; iexact HS0
    iexists sc; iexact HS1
  iexact Hg

set_option backward.isDefEq.respectTransparency.types false in
/-- The launch: every execution ends, the arrays at what the relational data say, every semaphore counter at zero. -/
theorem run_main_quiescent : θ_run defs (onTc (τ := τ) (main (F := F))) (s₀ m ρ)
    (fun r => (Pipeline.RDat.FramePost (cfgs 0) (rdats m) (V m)) r ∧ r.2.sem = fun _ => 0) :=
  Pipeline.RDat.θ_run_frame_track (Q' := _) cfgs (0 : Fin 1) launch0 defs₀ Variants.none (rdats m) m ρ main
    (hbody := fun c => (body_obligation m c).toRRel) (hshare := fun c w => (dats m 0 c).share_full (fun _ => rfl) w)
    (howed := fun _ _ => rfl) (V := V m) (hmain := hmain m Variants.none) (hA := A_eq m)
    (hin := fun c => carried_in m c) (hout := fun c => carried_out m c _)

/-- The frame claim at any values: the argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_main_arg0 m c),
      (Pipeline.RDat.FramePost.arr_in h.1 c 1 rfl).trans ((A_eq m c 1).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main_quiescent m ρ)

end Cert.KernelIdeal.Hand

end
-- ==== Proof.Exponent.lean ====
/- The row's power of two, twice: from the exponent field of a float32 (a count over the table of the fields' floats,
   then a shift of the field into place) and from the logarithm. On extended reals at least zero both are the same
   function (`power_expo`, `power_neg_expo`). -/
module

public import Idealize.ShloMosaic.Lib.Pointwise

@[expose] public section

set_option maxRecDepth 16384

noncomputable section

namespace Cert.Quant

open Idealize.ShloMosaic

/-! ## The two ways of computing it -/

/-- The float32 with exponent field `j` and fraction zero. -/
def pat (j : BitVec 32) : EReal := Ideal.ofBits .f32 (IntOp.shli .vector j 23#32)

/-- How many of the 256 floats with fraction zero are at most `q`. -/
def count (q : EReal) : BitVec 32 :=
  Finset.fold IntOp.addi (0#32)
    (fun x : Fin 256 => BitVec.setWidth 32 (BitVec.ofBool (decide (pat (BitVec.ofNat 32 x.val) ≤ q)))) Finset.univ

/-- The exponent of a count: 127 less, and zero where `q` is no positive normal float. -/
def expoOf (n : BitVec 32) : BitVec 32 :=
  Scalar.select (IntOp.andi (IntOp.cmpi .sgt n 1#32) (IntOp.cmpi .slt n 256#32)) (IntOp.subi n 127#32) 0#32

/-- The exponent of a row whose largest absolute value is `a` and quotient `q`. -/
def expo (a q : EReal) : BitVec 32 := if a = 0 then 0#32 else expoOf (count q)

/-- The exponent field of `2 ^ e`, cut to its range. -/
def field (e : BitVec 32) : BitVec 32 := IntOp.minsi (255#32) (IntOp.maxsi (0#32) (IntOp.addi e 127#32))

/-- `2 ^ e` by its field. -/
def power (e : BitVec 32) : EReal := pat (field e)

/-- The exponent by the logarithm. -/
def logExpo (q : EReal) : EReal :=
  Scalar.select
    (IntOp.andi (BitVec.ofBool (decide (Ideal.ofBits .f32 8388608#32 ≤ q))) (BitVec.ofBool (decide (q < Ideal.ofBits .f32 2139095040#32))))
    (Ideal.liftRound Int.floor (Ideal.div (Ideal.log q) (Ideal.log (Ideal.ofBits .f32 1073741824#32))) + 1) (0 : EReal)

/-- `2 ^ e`, infinite above the normal range and zero below it. -/
def logPower (e : EReal) : EReal :=
  if Ideal.ofBits .f32 1123942400#32 < e then Ideal.ofBits .f32 2139095040#32
  else if e < Ideal.ofBits .f32 3271294976#32 then 0 else Ideal.exp2 e

/-! ## The constants -/

theorem c_inf : Ideal.ofBits .f32 2139095040#32 = ⊤ := by
  simp [Ideal.ofBits, Ideal.ieee]
theorem c_two : Ideal.ofBits .f32 1073741824#32 = ((2 : ℝ) : EReal) := by
  simp [Ideal.ofBits, Ideal.ieee, -EReal.coe_mul]; norm_num
theorem c_127 : Ideal.ofBits .f32 1123942400#32 = ((127 : ℝ) : EReal) := by
  simp [Ideal.ofBits, Ideal.ieee, -EReal.coe_mul]; norm_num
theorem c_neg126 : Ideal.ofBits .f32 3271294976#32 = ((-126 : ℝ) : EReal) := by
  simp [Ideal.ofBits, Ideal.ieee, -EReal.coe_mul]; norm_num
/-! ## The table -/

theorem pat_bits : ∀ j : Fin 256,
    let b := IntOp.shli .vector (BitVec.ofNat 32 j.val) 23#32
    b.extractLsb' 31 1 = 0#1 ∧ (b.extractLsb' 23 8).toNat = j.val ∧ (b.extractLsb' 0 23).toNat = 0 := by
  decide +kernel

/-- A float32 of positive sign and fraction zero, by its exponent field. -/
theorem ieee_fraction_zero (b : BitVec 32) (e : ℕ) (h1 : b.extractLsb' 31 1 = 0#1) (h2 : (b.extractLsb' 23 8).toNat = e)
    (h3 : (b.extractLsb' 0 23).toNat = 0) :
    Ideal.ofBits .f32 b = if e = 255 then ⊤ else if e = 0 then 0 else (((2 : ℝ) ^ ((e : ℤ) - 127) : ℝ) : EReal) := by
  show (if (b.extractLsb' 23 8).toNat = 255 then (if (b.extractLsb' 0 23).toNat = 0 then (if (b.extractLsb' 31 1 == 1#1) = true then ⊥ else ⊤) else ⊥)
    else if (b.extractLsb' 23 8).toNat = 0
      then (((if (b.extractLsb' 31 1 == 1#1) = true then (-1 : ℝ) else 1) * (b.extractLsb' 0 23).toNat * (2 : ℝ) ^ (1 - (2 ^ 7 - 1) - 23 : ℤ) : ℝ) : EReal)
    else (((if (b.extractLsb' 31 1 == 1#1) = true then (-1 : ℝ) else 1) * (2 ^ 23 + (b.extractLsb' 0 23).toNat : ℕ)
      * (2 : ℝ) ^ (((b.extractLsb' 23 8).toNat : ℤ) - (2 ^ 7 - 1) - 23) : ℝ) : EReal)) = _
  have hs : ((0#1 : BitVec 1) == 1#1) = false := by decide
  rw [h1, h2, h3, hs]
  by_cases e1 : e = 255
  · rw [if_pos e1, if_pos e1]; rfl
  · rw [if_neg e1, if_neg e1]
    by_cases e0 : e = 0
    · rw [if_pos e0, if_pos e0]; simp
    · rw [if_neg e0, if_neg e0]
      congr 1
      rw [show ((e : ℤ) - (2 ^ 7 - 1) - 23) = ((e : ℤ) - 127) + (-23) by ring, zpow_add₀ (by norm_num)]
      have h23 : (2 : ℝ) ^ (-23 : ℤ) = 1 / 8388608 := by norm_num
      rw [h23]
      push_cast
      ring

/-- What the table holds. -/
theorem pat_val (j : Fin 256) : pat (BitVec.ofNat 32 j.val)
    = if j.val = 255 then ⊤ else if j.val = 0 then 0 else (((2 : ℝ) ^ ((j.val : ℤ) - 127) : ℝ) : EReal) :=
  ieee_fraction_zero _ _ (pat_bits j).1 (pat_bits j).2.1 (pat_bits j).2.2

/-- The least positive normal float is the table's second. -/
theorem c_min : Ideal.ofBits .f32 8388608#32 = (((2 : ℝ) ^ (-126 : ℤ) : ℝ) : EReal) :=
  (ieee_fraction_zero _ 1 (by decide) (by decide) (by decide)).trans (by
    rw [if_neg (by decide), if_neg (by decide)]; norm_num)

/-- A count of the first `n` lanes is `n`. -/
theorem fold_first : ∀ n : Fin 257,
    Finset.fold IntOp.addi (0#32) (fun x : Fin 256 => BitVec.setWidth 32 (BitVec.ofBool (decide (x.val < n.val)))) Finset.univ
      = BitVec.ofNat 32 n.val := by
  decide +kernel

theorem count_of {q : EReal} (n : Fin 257) (h : ∀ j : Fin 256, pat (BitVec.ofNat 32 j.val) ≤ q ↔ j.val < n.val) :
    count q = BitVec.ofNat 32 n.val := by
  rw [← fold_first n]
  unfold count
  simp only [h]

/-! ## The fields of the two powers -/

theorem field_expo : ∀ n : Fin 257, field (expoOf (BitVec.ofNat 32 n.val))
    = BitVec.ofNat 32 (if 1 < n.val ∧ n.val < 256 then n.val else 127) := by
  decide +kernel

theorem field_neg_expo : ∀ n : Fin 257, field (IntOp.subi 0#32 (expoOf (BitVec.ofNat 32 n.val)))
    = BitVec.ofNat 32 (if 1 < n.val ∧ n.val < 256 then 254 - n.val else 127) := by
  decide +kernel

/-! ## The powers agree -/

/-- The binade of a positive real: `2 ^ k` is at most `r` exactly when `k` is at most the logarithm's floor. -/
theorem zpow_le_iff {r : ℝ} (hr : 0 < r) (k : ℤ) : (2 : ℝ) ^ k ≤ r ↔ k ≤ ⌊Real.log r / Real.log 2⌋ := by
  have h2 : 0 < Real.log 2 := Real.log_pos (by norm_num)
  rw [Int.le_floor, le_div_iff₀ h2, ← Real.log_zpow, Real.log_le_log_iff (by positivity) hr]

/-- The count of a positive real, by its binade. -/
theorem count_real {r : ℝ} (hr : 0 < r) (n : Fin 257)
    (hn : (n.val : ℤ) = max 1 (min 255 (⌊Real.log r / Real.log 2⌋ + 128))) : count (r : EReal) = BitVec.ofNat 32 n.val := by
  refine count_of n fun j => ?_
  rw [pat_val]
  have hj := j.isLt
  by_cases e1 : j.val = 255
  · rw [if_pos e1]
    constructor
    · intro h; exact absurd (top_le_iff.mp h) (EReal.coe_ne_top r)
    · intro h; omega
  · rw [if_neg e1]
    by_cases e0 : j.val = 0
    · rw [if_pos e0]
      constructor
      · intro _; omega
      · intro _; exact_mod_cast hr.le
    · rw [if_neg e0, EReal.coe_le_coe_iff, zpow_le_iff hr]
      omega

theorem count_zero : count 0 = 1#32 := by
  refine count_of (q := 0) (1 : Fin 257) fun j => ?_
  rw [pat_val]
  show _ ↔ j.val < 1
  by_cases e1 : j.val = 255
  · rw [if_pos e1]
    constructor
    · intro h; exact absurd (top_le_iff.mp h) EReal.zero_ne_top
    · intro h; omega
  · rw [if_neg e1]
    by_cases e0 : j.val = 0
    · rw [if_pos e0]; simp [e0]
    · rw [if_neg e0]
      constructor
      · intro h
        have : (2 : ℝ) ^ ((j.val : ℤ) - 127) ≤ 0 := by exact_mod_cast h
        exact absurd this (not_le.mpr (by positivity))
      · intro h; omega

theorem count_top : count ⊤ = 256#32 :=
  count_of (q := ⊤) (256 : Fin 257) fun j => ⟨fun _ => j.isLt, fun _ => le_top⟩

/-- The logarithm's exponent of a positive real, by its binade. -/
theorem logExpo_real {r : ℝ} (hr : 0 < r) : logExpo (r : EReal)
    = if -126 ≤ ⌊Real.log r / Real.log 2⌋ then (((⌊Real.log r / Real.log 2⌋ + 1 : ℤ) : ℝ) : EReal) else 0 := by
  have h2 : 0 < Real.log 2 := Real.log_pos (by norm_num)
  have hl : Ideal.log (r : EReal) = ((Real.log r : ℝ) : EReal) := by
    show (if r ≤ 0 then ⊥ else ((Real.log r : ℝ) : EReal)) = _
    rw [if_neg (not_le.mpr hr)]
  have hl2 : Ideal.log ((2 : ℝ) : EReal) = ((Real.log 2 : ℝ) : EReal) := by
    show (if (2 : ℝ) ≤ 0 then ⊥ else ((Real.log 2 : ℝ) : EReal)) = _
    rw [if_neg (by norm_num)]
  have hd : Ideal.div ((Real.log r : ℝ) : EReal) ((Real.log 2 : ℝ) : EReal) = ((Real.log r / Real.log 2 : ℝ) : EReal) := by
    unfold Ideal.div
    rw [if_neg (by exact_mod_cast h2.ne'), ← EReal.coe_inv, ← EReal.coe_mul, div_eq_mul_inv]
  unfold logExpo
  rw [c_min, c_inf, c_two, hl, hl2, hd]
  have hf : Ideal.liftRound Int.floor ((Real.log r / Real.log 2 : ℝ) : EReal) = ((⌊Real.log r / Real.log 2⌋ : ℝ) : EReal) := rfl
  rw [hf, decide_eq_true (EReal.coe_lt_top r)]
  by_cases h : -126 ≤ ⌊Real.log r / Real.log 2⌋
  · rw [decide_eq_true (EReal.coe_le_coe_iff.mpr ((zpow_le_iff hr _).mpr h)), if_pos h]
    show (((⌊Real.log r / Real.log 2⌋ : ℝ) : EReal) + 1 : EReal) = _
    push_cast
    rfl
  · rw [decide_eq_false (fun h' => h ((zpow_le_iff hr _).mp (EReal.coe_le_coe_iff.mp h'))), if_neg h]
    rfl

theorem logExpo_zero : logExpo 0 = 0 := by
  unfold logExpo
  rw [c_min, decide_eq_false (not_le.mpr (by exact_mod_cast (by positivity : (0 : ℝ) < 2 ^ (-126 : ℤ))))]
  rw [c_inf, decide_eq_true (by exact EReal.zero_lt_top)]
  rfl

theorem logExpo_top : logExpo ⊤ = 0 := by
  unfold logExpo
  rw [c_inf, decide_eq_false (lt_irrefl _), decide_eq_true le_top]
  rfl

/-- `logPower` of an integer. -/
theorem logPower_int (z : ℤ) : logPower ((z : ℝ) : EReal)
    = if 127 < z then ⊤ else if z < -126 then 0 else (((2 : ℝ) ^ z : ℝ) : EReal) := by
  unfold logPower
  rw [c_127, c_neg126, c_inf]
  have e1 : ((127 : ℝ) : EReal) < ((z : ℝ) : EReal) ↔ 127 < z := by
    rw [EReal.coe_lt_coe_iff]; norm_cast
  have e2 : ((z : ℝ) : EReal) < ((-126 : ℝ) : EReal) ↔ z < -126 := by
    rw [EReal.coe_lt_coe_iff]; norm_cast
  simp only [e1, e2]
  have e3 : Ideal.exp2 ((z : ℝ) : EReal) = (((2 : ℝ) ^ z : ℝ) : EReal) := by
    show ((Real.rpow 2 (z : ℝ) : ℝ) : EReal) = _
    congr 1
    exact Real.rpow_intCast 2 z
  rw [e3]

/-- The table at a natural number below 256. -/
theorem pat_nat (n : ℕ) (h : n < 256) : pat (BitVec.ofNat 32 n)
    = if n = 255 then ⊤ else if n = 0 then 0 else (((2 : ℝ) ^ ((n : ℤ) - 127) : ℝ) : EReal) := pat_val ⟨n, h⟩

theorem pat_127 : pat (BitVec.ofNat 32 127) = logPower 0 := by
  rw [pat_nat 127 (by decide), show (0 : EReal) = (((0 : ℤ) : ℝ) : EReal) by simp, logPower_int]
  norm_num

/-- Both powers of a count and of a logarithm with the same binade. -/
theorem powers_eq (q : EReal) (hq : 0 ≤ q) :
    power (expoOf (count q)) = logPower (logExpo q) ∧ power (IntOp.subi 0#32 (expoOf (count q))) = logPower (0 - logExpo q) := by
  unfold power
  induction q with
  | bot => exact absurd hq (by simp)
  | top =>
    rw [count_top, logExpo_top]
    have a := field_expo (256 : Fin 257)
    have b := field_neg_expo (256 : Fin 257)
    rw [show (0 : EReal) - 0 = 0 by simp]
    exact ⟨(congrArg pat a).trans pat_127, (congrArg pat b).trans pat_127⟩
  | coe r =>
    have hr : 0 ≤ r := by exact_mod_cast hq
    rcases hr.eq_or_lt with h0 | hr
    · rw [← h0, show ((0 : ℝ) : EReal) = 0 from rfl, count_zero, logExpo_zero]
      have a := field_expo (1 : Fin 257)
      have b := field_neg_expo (1 : Fin 257)
      rw [show (0 : EReal) - 0 = 0 by simp]
      exact ⟨(congrArg pat a).trans pat_127, (congrArg pat b).trans pat_127⟩
    · rw [logExpo_real hr]
      generalize hz : ⌊Real.log r / Real.log 2⌋ = z
      have hb : (max 1 (min 255 (z + 128))).toNat < 257 := by omega
      rw [count_real hr ⟨(max 1 (min 255 (z + 128))).toNat, hb⟩ (by rw [hz]; show (((max 1 (min 255 (z + 128))).toNat : ℕ) : ℤ) = _; omega),
        field_expo, field_neg_expo]
      by_cases h : -126 ≤ z
      · rw [if_pos h]
        have hn : 1 < (max 1 (min 255 (z + 128))).toNat ∧ (max 1 (min 255 (z + 128))).toNat < 256 := by omega
        rw [show (0 : EReal) - (((z + 1 : ℤ) : ℝ) : EReal) = (((-(z + 1) : ℤ) : ℝ) : EReal) by push_cast; simp]
        rw [logPower_int, logPower_int]
        simp only [if_pos hn]
        rw [pat_nat _ (by omega), pat_nat _ (by omega)]
        refine ⟨?_, ?_⟩
        · by_cases h1 : 127 < z + 1
          · rw [if_pos h1, if_pos (by omega)]
          · rw [if_neg h1, if_neg (by omega), if_neg (by omega), if_neg (by omega)]
            congr 3; omega
        · rw [if_neg (by omega : ¬ 127 < -(z + 1)), if_neg (by omega)]
          by_cases h1 : -(z + 1) < -126
          · rw [if_pos h1, if_pos (by omega)]
          · rw [if_neg h1, if_neg (by omega)]
            congr 3; omega
      · rw [if_neg h]
        have hn : ¬(1 < (max 1 (min 255 (z + 128))).toNat ∧ (max 1 (min 255 (z + 128))).toNat < 256) := by omega
        simp only [if_neg hn]
        rw [show (0 : EReal) - 0 = 0 by simp]
        exact ⟨pat_127, pat_127⟩

/-- The two powers of two agree on quotients at least zero, -/
theorem power_expo (a q : EReal) (hq : 0 ≤ q) (ha : a = 0 → q = 0) : power (expo a q) = logPower (logExpo q) := by
  unfold expo
  split
  · rename_i h
    rw [← (powers_eq q hq).1, ha h, count_zero]; rfl
  · exact (powers_eq q hq).1

/-- and so do their reciprocals. -/
theorem power_neg_expo (a q : EReal) (hq : 0 ≤ q) (ha : a = 0 → q = 0) :
    power (IntOp.subi 0#32 (expo a q)) = logPower (0 - logExpo q) := by
  unfold expo
  split
  · rename_i h
    rw [← (powers_eq q hq).2, ha h, count_zero]; rfl
  · exact (powers_eq q hq).2

end Cert.Quant

end
-- ==== Proof.Spec.lean ====
/- What the three results are at an index, as functions of the activations, the weights, their scales and the residual:
   the specification both programs are read into. -/
module

public import proofs.«01_k».proof.Proof.Exponent

@[expose] public section

set_option maxRecDepth 16384

noncomputable section

namespace Cert.Quant

open Idealize.ShloMosaic

/-! ## One row -/

/-- The row's largest absolute value. -/
def rowMax (f : Fin 2048 → EReal) : EReal :=
  Finset.fold max (Ideal.ofBits .f32 4286578688#32) (fun x => max (f x) (-(f x))) Finset.univ

/-- The largest absolute value times the float32 nearest 1 / 448. -/
def rowQ (f : Fin 2048 → EReal) : EReal := rowMax f * Ideal.ofBits .f32 991054117#32

/-- The row's scale, -/
def scaleOf (f : Fin 2048 → EReal) : EReal := logPower (logExpo (rowQ f))
/-- its reciprocal, -/
def invOf (f : Fin 2048 → EReal) : EReal := logPower (0 - logExpo (rowQ f))
/-- and the code of the row's entry `k`, cut to [-448, 448]. -/
def codeOf (f : Fin 2048 → EReal) (k : Fin 2048) : EReal :=
  min (Ideal.ofBits .f32 1138753536#32) (max (Ideal.ofBits .f32 3286237184#32) (f k * invOf f))

/-- The row's product with one column, scaled by both scales, plus the residual. -/
def outOf (f w : Fin 2048 → EReal) (ws res : EReal) : EReal := (∑ k, codeOf f k * w k) * scaleOf f * ws + res

theorem rowMax_nonneg (f : Fin 2048 → EReal) : 0 ≤ rowMax f := by
  unfold rowMax
  rw [Finset.le_fold_max]
  refine .inr ⟨0, Finset.mem_univ _, ?_⟩
  rcases le_total 0 (f 0) with h | h
  · exact le_max_of_le_left h
  · exact le_max_of_le_right (by rwa [EReal.neg_nonneg])

theorem c_inv448 : (0 : EReal) ≤ Ideal.ofBits .f32 991054117#32 := by
  simp [Ideal.ofBits, Ideal.ieee, -EReal.coe_mul]

theorem rowQ_nonneg (f : Fin 2048 → EReal) : 0 ≤ rowQ f := mul_nonneg (rowMax_nonneg f) c_inv448

theorem rowQ_zero (f : Fin 2048 → EReal) (h : rowMax f = 0) : rowQ f = 0 := by unfold rowQ; rw [h, zero_mul]

/-- The scale from the exponent's field, -/
theorem scaleOf_eq (f : Fin 2048 → EReal) : power (expo (rowMax f) (rowQ f)) = scaleOf f :=
  power_expo _ _ (rowQ_nonneg f) (rowQ_zero f)

/-- and its reciprocal. -/
theorem invOf_eq (f : Fin 2048 → EReal) : power (IntOp.subi 0#32 (expo (rowMax f) (rowQ f))) = invOf f :=
  power_neg_expo _ _ (rowQ_nonneg f) (rowQ_zero f)

/-! ## The whole arrays -/

/-- Row `r` of a two-axis array with 2048 columns. -/
def row {n : ℕ} (X : (⟨2, ![n, 2048]⟩ : Shape).Idx → EReal) (r : Fin n) : Fin 2048 → EReal := fun k => X (ix2 r k)

/-- The codes. -/
def codes (X : (⟨2, ![24576, 2048]⟩ : Shape).Idx → EReal) : (⟨2, ![24576, 2048]⟩ : Shape).Idx → EReal :=
  fun j => codeOf (row X (j 0)) (j 1)

/-- The scales, 128 to a row. -/
def scales (X : (⟨2, ![24576, 2048]⟩ : Shape).Idx → EReal) : (⟨2, ![192, 128]⟩ : Shape).Idx → EReal :=
  fun j => scaleOf (row X (⟨(j 0).val * 128 + (j 1).val, by
    have h0 : (j 0).val < 192 := (j 0).isLt
    have h1 : (j 1).val < 128 := (j 1).isLt
    omega⟩ : Fin 24576))

/-- The output, its rows in groups of 8. -/
def outs (X : (⟨2, ![24576, 2048]⟩ : Shape).Idx → EReal) (W : (⟨2, ![2048, 8192]⟩ : Shape).Idx → EReal)
    (WS : (⟨2, ![1, 8192]⟩ : Shape).Idx → EReal) (R : (⟨2, ![24576, 8192]⟩ : Shape).Idx → EReal) :
    (⟨3, ![3072, 8, 8192]⟩ : Shape).Idx → EReal :=
  fun j =>
    let r : Fin 24576 := ⟨(j 0).val * 8 + (j 1).val, by
      have h0 : (j 0).val < 3072 := (j 0).isLt
      have h1 : (j 1).val < 8 := (j 1).isLt
      omega⟩
    outOf (row X r) (fun k => W (ix2 k (j 2 : Fin 8192))) (WS (ix2 (0 : Fin 1) (j 2 : Fin 8192))) (R (ix2 r (j 2 : Fin 8192)))

end Cert.Quant

end
-- ==== Proof.TileValue.lean ====
/- One tile at an index: its codes, scales and outputs are the specification's, of the tile's rows. -/
module

public import proofs.«01_k».proof.Proof.Chunks
public import proofs.«01_k».proof.Proof.Spec

@[expose] public section

set_option maxRecDepth 16384

noncomputable section

namespace Cert.KernelIdeal.Hand

open Cert.KernelIdeal.Gen Cert.Quant
open Idealize.ShloMosaic

/-! ## One chunk -/

/-- The chunk's exponents. -/
theorem chunk_expo (v : Vec Ideal S32x2048 .bf16) (r : Fin 32) :
    k0_pay4 v (ix2 r 0) = expo (rowMax (row v r)) (rowQ (row v r)) := by
  pointwise [k0_pay4, k0_pay3]
  rfl

theorem chunkScale_apply (v : Vec Ideal S32x2048 .bf16) (r : Fin 32) : chunkScale v (ix2 r 0) = scaleOf (row v r) := by
  rw [← scaleOf_eq, ← chunk_expo]
  unfold chunkScale
  pointwise [k0_pay5]
  rfl

theorem chunkCodes_apply (v : Vec Ideal S32x2048 .bf16) (r : Fin 32) (k : Fin 2048) :
    chunkCodes v (ix2 r k) = codeOf (row v r) k := by
  unfold codeOf
  rw [← invOf_eq, ← chunk_expo]
  unfold chunkCodes
  pointwise [k0_pay7, k0_pay6, k0_pay3]
  rfl

theorem chunkScale3_apply (v : Vec Ideal S32x2048 .bf16) (r : Fin 32) (l : Fin 128) :
    chunkScale3 v (ix3 0 r l) = scaleOf (row v r) := by
  rw [← chunkScale_apply]
  unfold chunkScale3 chunkScale
  pointwise [k0_pay9]

theorem chunkCodes3_apply (v : Vec Ideal S32x2048 .bf16) (r : Fin 32) (k : Fin 2048) :
    chunkCodes3 v (ix3 0 r k) = codeOf (row v r) k := by
  rw [← chunkCodes_apply]
  unfold chunkCodes3 chunkCodes
  pointwise [k0_pay8]

/-! ## One tile -/

/-- A row of a chunk is a row of the tile. -/
theorem row_rows (x : Vec Ideal S512x2048 .bf16) (r : Fin 512) :
    row (rows x (r.val / 32)) (⟨r.val % 32, Nat.mod_lt _ (by decide)⟩ : Fin 32) = row x r := by
  funext k
  unfold row rows
  have e : (⟨(32 * (r.val / 32) + r.val % 32) % 512, Nat.mod_lt _ (by decide)⟩ : Fin 512) = r := Fin.ext (by
    have := r.isLt
    show (32 * (r.val / 32) + r.val % 32) % 512 = r.val
    omega)
  exact congrArg (fun p => x (ix2 p k)) e

theorem tileCodes_apply (x : Vec Ideal S512x2048 .bf16) (r : Fin 512) (k : Fin 2048) :
    tileCodes x (ix2 r k) = codeOf (row x r) k := by
  rw [← row_rows]; exact chunkCodes_apply _ _ _

theorem tileCodes3_apply (x : Vec Ideal S512x2048 .bf16) (o : Fin 2) (r : Fin 512) (k : Fin 2048) :
    tileCodes3 x (ix3 o r k) = codeOf (row x r) k := by
  rw [← row_rows]; exact chunkCodes3_apply _ _ _

theorem tileScale3_apply (x : Vec Ideal S512x2048 .bf16) (o : Fin 2) (r : Fin 512) (l : Fin 128) :
    tileScale3 x (ix3 o r l) = scaleOf (row x r) := by
  rw [← row_rows]; exact chunkScale3_apply _ _ _

/-- The tile's scales, 128 to a row. -/
theorem tileXs_apply (x : Vec Ideal S512x2048 .bf16) (a : Fin 4) (b : Fin 128) (h : 128 * a.val + b.val < 512) :
    tileXs x (ix2 a b) = scaleOf (row x ⟨128 * a.val + b.val, h⟩) := by
  have key : ∀ (n : ℕ) (l : Fin 128) (hn : 128 * n + b.val < 512),
      quarter x n (ix3 0 b l) = scaleOf (row x ⟨128 * n + b.val, hn⟩) := by
    intro n l hn
    have e : (⟨(128 * n + b.val) % 512, Nat.mod_lt _ (by decide)⟩ : Fin 512) = ⟨128 * n + b.val, hn⟩ :=
      Fin.ext (Nat.mod_eq_of_lt hn)
    show tileScale3 x (ix3 (0 : Fin 2) (⟨(128 * n + b.val) % 512, Nat.mod_lt _ (by decide)⟩ : Fin 512) l) = _
    rw [tileScale3_apply]
    exact congrArg (fun p => scaleOf (row x p)) e
  unfold tileXs chunkXs
  pointwise [k0_pay133]
  fin_vals a with ha
  all_goals simp only [ha, Nat.reduceSub, Nat.reduceLT, ↓reduceDIte]
  · exact key 0 _ _
  · exact key 1 _ _
  · exact key 2 _ _
  · exact key 3 _ _

/-- The tile's output. -/
theorem tileY_apply (x : Vec Ideal S512x2048 .bf16) (o : ℕ) (w : Vec Ideal S2048x8192 .fp8e4m3) (ws : Vec Ideal S1x8192 .f32)
    (res : Vec Ideal S512x8192 .bf16) (p : Fin 64) (q : Fin 8) (n : Fin 8192) (h : p.val * 8 + q.val < 512) :
    tileY (tileCodes3 x) (tileScale3 x) o w ws res (ix3 p q n)
      = outOf (row x ⟨p.val * 8 + q.val, h⟩) (fun k => w (ix2 k n)) (ws (ix2 0 n)) (res (ix2 ⟨p.val * 8 + q.val, h⟩ n)) := by
  have hn : (⟨(512 * (n.val / 512) + n.val % 512) % 8192, Nat.mod_lt _ (by decide)⟩ : Fin 8192) = n := Fin.ext (by
    have := n.isLt
    show (512 * (n.val / 512) + n.val % 512) % 8192 = n.val
    omega)
  unfold tileY chunkY
  pointwise [k0_pay2]
  unfold slotC slotS colsW colsWs colsRes
  pointwise
  simp only [tileCodes3_apply, tileScale3_apply, hn]
  split_ifs <;> rfl

end Cert.KernelIdeal.Hand

end
-- ==== Proof.KernelValue.lean ====
/- The kernel's three result arrays after the run, read into the specification. -/
module

public import proofs.«01_k».proof.Proof.KernelRun
public import proofs.«01_k».proof.Proof.TileValue
public import Idealize.ShloMosaic.Lib.Pipeline.ValueKit
public import Idealize.ShloMosaic.Lib.Pipeline.ArrRel

@[expose] public section

set_option maxRecDepth 16384

noncomputable section

namespace Cert.KernelIdeal.Hand

open Cert.KernelIdeal.Gen Cert.Quant
open Idealize.ShloMosaic Idealize.ShloMosaic.TcCoe
open Idealize.SL.Sem
open Idealize.ShloMosaic.Pipeline (Dat RDat)

variable (m : (ℓ : Loc nD τ sig) → Buf (Elt Ideal) ℓ) (ρ : Dev nD → PrngReg)

/-! ## The input blocks -/

/-- Where each window's block is at a point. -/
theorem index_x : ∀ t : Fin grid0.N, win0_0.index t = ![min t.val 47, 0] := by decide +kernel
theorem index_w : ∀ t : Fin grid0.N, win0_1.index t = ![0, 0] := by decide +kernel
theorem index_ws : ∀ t : Fin grid0.N, win0_2.index t = ![0, 0] := by decide +kernel
theorem index_res : ∀ t : Fin grid0.N, win0_3.index t = ![t.val - 1, 0] := by decide +kernel
theorem index_y : ∀ t : Fin grid0.N, win0_4.index t = ![t.val - 1, 0, 0] := by decide +kernel
theorem index_codes : ∀ t : Fin grid0.N, win0_5.index t = ![min t.val 47, 0] := by decide +kernel

theorem index_xs : ∀ t : Fin grid0.N, win0_6.index t = ![0, 0] := by decide +kernel

theorem pt_of_lt {n : ℕ} (h : n < 49) : (pt n).val = n := by
  show min n 48 = n; omega

/-- The tile of activations at point `n` is rows `512 n` to `512 n + 511`. -/
theorem row_tileX (c : Dev nD) (n : ℕ) (hn : n < 48) (r : Fin 512) (R : Fin 24576) (hR : R.val = 512 * n + r.val) :
    row (tileX m c n) r = row (V m c main_v0) R := by
  have hp := pt_of_lt (show n < 49 by omega)
  funext k
  unfold row tileX
  blk_ext [iblk, index_x (pt n)]

/-- The weights are whole at every point. -/
theorem weights_apply (c : Dev nD) (n : ℕ) (k : Fin 2048) (l : Fin 8192) :
    weights m c n (ix2 k l) = V m c main_arg1 (ix2 k l) := by
  unfold weights
  blk_ext [iblk, index_w (pt n)]

/-- The scales of the weights are whole at every point. -/
theorem wScales_apply (c : Dev nD) (n : ℕ) (l : Fin 8192) :
    wScales m c n (ix2 0 l) = V m c main_v1 (ix2 0 l) := by
  unfold wScales
  blk_ext [iblk, index_ws (pt n)]

/-- The tile of the residual at point `n + 1` is rows `512 n` to `512 n + 511`. -/
theorem tileRes_apply (c : Dev nD) (n : ℕ) (hn : n < 48) (r : Fin 512) (R : Fin 24576) (l : Fin 8192)
    (hR : R.val = 512 * n + r.val) :
    tileRes m c (n + 1) (ix2 r l) = V m c main_v2 (ix2 R l) := by
  have hp := pt_of_lt (show n + 1 < 49 by omega)
  unfold tileRes
  blk_ext [iblk, index_res (pt (n + 1))]

/-! ## What one point writes, as rows of the whole arrays -/

/-- The block of the product at tile `n`, entry by entry. -/
theorem blockY_apply (c : Dev nD) (n : ℕ) (hn : n < 48) (p : Fin 64) (q : Fin 8) (l : Fin 8192)
    (P : Fin 3072) (hP : P.val = 64 * n + p.val) :
    blockY m c n (ix3 p q l)
      = outs (V m c main_v0) (V m c main_arg1) (V m c main_v1) (V m c main_v2) (ix3 P q l) := by
  have h : p.val * 8 + q.val < 512 := by omega
  have hR : P.val * 8 + q.val < 24576 := by omega
  have e : (⟨P.val * 8 + q.val, hR⟩ : Fin 24576).val = 512 * n + (⟨p.val * 8 + q.val, h⟩ : Fin 512).val := by
    show P.val * 8 + q.val = 512 * n + (p.val * 8 + q.val); omega
  unfold blockY
  rw [tileY_apply _ _ _ _ _ p q l h, row_tileX m c n hn _ _ e, wScales_apply,
    tileRes_apply m c n hn _ _ _ e]
  simp only [weights_apply]
  rfl

/-- The codes of tile `n`, entry by entry. -/
theorem tileCodes_rows (c : Dev nD) (n : ℕ) (hn : n < 48) (r : Fin 512) (k : Fin 2048)
    (R : Fin 24576) (hR : R.val = 512 * n + r.val) :
    tileCodes (tileX m c n) (ix2 r k) = codes (V m c main_v0) (ix2 R k) := by
  rw [tileCodes_apply, row_tileX m c n hn r R hR]
  rfl

/-- The scales of tile `n`, entry by entry. -/
theorem tileXs_rows (c : Dev nD) (n : ℕ) (hn : n < 48) (a : Fin 4) (b : Fin 128)
    (A : Fin 192) (hA : A.val = 4 * n + a.val) :
    tileXs (tileX m c n) (ix2 a b) = scales (V m c main_v0) (ix2 A b) := by
  have h : 128 * a.val + b.val < 512 := by omega
  have hR : A.val * 128 + b.val < 24576 := by omega
  have e : (⟨A.val * 128 + b.val, hR⟩ : Fin 24576).val = 512 * n + (⟨128 * a.val + b.val, h⟩ : Fin 512).val := by
    show A.val * 128 + b.val = 512 * n + (128 * a.val + b.val); omega
  rw [tileXs_apply _ a b h, row_tileX m c n hn _ _ e]
  rfl

/-! ## The final arrays -/

/-- The flushes of the product start at the second point. -/
theorem flush_y : ∀ t : Fin grid0.N, (cfg0.win 4).flush t = true → 1 ≤ t.val := by decide +kernel
/-- The scales are flushed at the last point only. -/
theorem flush_xs : ∀ t : Fin grid0.N, (cfg0.win 6).flush t = true → t.val = 48 := by decide +kernel

/-- The window of the product leaves the specified array. -/
theorem arr_y (c : Dev nD) (D : Dat τ (Elt Ideal) Unit ℕ (UR sig nD τ) ℕ cfg0 c)
    (hl : ∀ t : Fin grid0.N, (cfg0.win 4).flush t = true → Left m c 4 t (D.after 4 t)) :
    D.arrAt 4 cfg0.N = outs (V m c main_v0) (V m c main_arg1) (V m c main_v1) (V m c main_v2) := by
  refine D.arrAt_eq_of_covers 4 _ (by decide +kernel) fun t hf y => ?_
  have h1 := flush_y t hf
  have ht : t.val < 49 := t.isLt
  have e : D.after 4 t = blockY m c (t.val - 1) := hl t hf (t.val - 1) (by omega)
  blk_simp [e]
  have l0 : (y 0).val < 64 := (y 0).isLt
  have hP : 64 * (t.val - 1) + (y 0).val < 3072 := by omega
  have hy : y = ix3 ⟨(y 0).val, l0⟩ ⟨(y 1).val, (y 1).isLt⟩ ⟨(y 2).val, (y 2).isLt⟩ := by blk_ext
  have hj : (win0_4.blk t).view.emb y
      = ix3 ⟨64 * (t.val - 1) + (y 0).val, hP⟩ ⟨(y 1).val, (y 1).isLt⟩ ⟨(y 2).val, (y 2).isLt⟩ := by
    blk_ext [index_y t]
  exact (congrArg (blockY m c (t.val - 1)) hy).trans ((blockY_apply m c (t.val - 1) (by omega) _ _ _ _ rfl).trans
    (congrArg (outs (V m c main_v0) (V m c main_arg1) (V m c main_v1) (V m c main_v2)) hj.symm))

/-- The window of the codes leaves the specified array. -/
theorem arr_codes (c : Dev nD) (D : Dat τ (Elt Ideal) Unit ℕ (UR sig nD τ) ℕ cfg0 c)
    (hl : ∀ t : Fin grid0.N, (cfg0.win 5).flush t = true → Left m c 5 t (D.after 5 t)) :
    D.arrAt 5 cfg0.N = codes (V m c main_v0) := by
  refine D.arrAt_eq_of_covers 5 _ (by decide +kernel) fun t hf y => ?_
  have e : D.after 5 t = tileCodes (tileX m c (min t.val 47)) := hl t hf
  blk_simp [e]
  have l0 : (y 0).val < 512 := (y 0).isLt
  have hR : 512 * min t.val 47 + (y 0).val < 24576 := by omega
  have hy : y = ix2 ⟨(y 0).val, l0⟩ ⟨(y 1).val, (y 1).isLt⟩ := by blk_ext
  have hj : (win0_5.blk t).view.emb y = ix2 ⟨512 * min t.val 47 + (y 0).val, hR⟩ ⟨(y 1).val, (y 1).isLt⟩ := by
    blk_ext [index_codes t]
  exact (congrArg (tileCodes (tileX m c (min t.val 47))) hy).trans
    ((tileCodes_rows m c (min t.val 47) (by omega) _ _ _ rfl).trans
      (congrArg (codes (V m c main_v0)) hj.symm))

/-- The window of the scales leaves the specified array. -/
theorem arr_xs (c : Dev nD) (D : Dat τ (Elt Ideal) Unit ℕ (UR sig nD τ) ℕ cfg0 c)
    (hl : ∀ t : Fin grid0.N, (cfg0.win 6).flush t = true → Left m c 6 t (D.after 6 t)) :
    D.arrAt 6 cfg0.N = scales (V m c main_v0) := by
  refine D.arrAt_eq_of_covers 6 _ (by decide +kernel) fun t hf y => ?_
  have h48 := flush_xs t hf
  have e : XsDone m c t.val (D.after 6 t) := hl t hf
  blk_simp
  have l0 : (y 0).val < 192 := (y 0).isLt
  have hA : 4 * ((y 0).val / 4) + (y 0).val % 4 < 192 := by omega
  have hy : y = ix2 ⟨4 * ((y 0).val / 4) + (⟨(y 0).val % 4, Nat.mod_lt _ (by omega)⟩ : Fin 4).val, hA⟩
      ⟨(y 1).val, (y 1).isLt⟩ := by blk_ext
  have hj : (win0_6.blk t).view.emb y = ix2 ⟨4 * ((y 0).val / 4) + (y 0).val % 4, hA⟩ ⟨(y 1).val, (y 1).isLt⟩ := by
    blk_ext [index_xs t]
  exact (congrArg (D.after 6 t) hy).trans ((e ((y 0).val / 4) (by omega) (by omega) _ _ _).trans
    ((tileXs_rows m c ((y 0).val / 4) (by omega) _ _ _ rfl).trans
      (congrArg (scales (V m c main_v0)) hj.symm)))

/-! ## The run -/

/-- After the kernel's run, its three results are the specified arrays of the operands, and the
arguments are as they were. -/
theorem values : θ_run defs (onTc (τ := τ) (main (F := Idealize.ShloMosaic.Ideal))) ⟨m, fun _ => 0, ρ⟩ (fun r => ∀ c : Dev nD,
      r.2.mem ((c.tc : Thread nD τ).loc main_v3_0)
        = outs (V m c main_v0) (V m c main_arg1) (V m c main_v1) (V m c main_v2)
      ∧ r.2.mem ((c.tc : Thread nD τ).loc main_v3_1) = codes (V m c main_v0)
      ∧ r.2.mem ((c.tc : Thread nD τ).loc main_v3_2) = scales (V m c main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (run_main_quiescent m ρ)
  obtain ⟨after, hL, hA⟩ := h.1.exists_exact c
  refine ⟨(hA 4).trans (arr_y m c _ fun t hf => ?_), (hA 5).trans (arr_codes m c _ fun t hf => ?_),
    (hA 6).trans (arr_xs m c _ fun t hf => ?_),
    ((h.1 c).2 main_arg0 (Pipeline.mem_restRefs_of main_arg0 (by decide) (by decide))).trans (V_main_arg0 m c),
    (Pipeline.RDat.FramePost.arr_in h.1 c 1 rfl).trans ((A_eq m c 1).trans (V_main_arg1 m c)),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c)⟩
  · exact (dats m 0 c).toRRel_leaves (fgt := marked) (Rl := Left m c) (w := 4) rfl (hL 4 t hf)
  · exact (dats m 0 c).toRRel_leaves (fgt := marked) (Rl := Left m c) (w := 5) rfl (hL 5 t hf)
  · exact (dats m 0 c).toRRel_leaves (fgt := marked) (Rl := Left m c) (w := 6) rfl (hL 6 t hf)

/-! ## The operands, as the arguments hold them -/

/-- The activations are the first argument, its rows in one run. -/
theorem operand_x (c : Dev nD) (r : Fin 24576) (k : Fin 2048) :
    V m c main_v0 (ix2 r k) = m ((c.tc : Thread nD τ).loc main_arg0)
      (ix3 ⟨r.val / 8192, by omega⟩ ⟨r.val % 8192, by omega⟩ k) := by
  entry_read
  pointwise

/-- The scales of the weights are the third argument. -/
theorem operand_ws (c : Dev nD) (l : Fin 8192) :
    V m c main_v1 (ix2 0 l) = m ((c.tc : Thread nD τ).loc main_arg2) (ix1 l) := by
  entry_read
  pointwise

/-- The residual is the fourth argument, its rows in one run. -/
theorem operand_res (c : Dev nD) (r : Fin 24576) (l : Fin 8192) :
    V m c main_v2 (ix2 r l) = m ((c.tc : Thread nD τ).loc main_arg3)
      (ix3 ⟨r.val / 8192, by omega⟩ ⟨r.val % 8192, by omega⟩ l) := by
  entry_read
  pointwise

end Cert.KernelIdeal.Hand

end
-- ==== Proof.ReferenceValue.lean ====
/- The reference's three result arrays after the run, read into the specification. -/
module

public import proofs.«01_k».proof.Proof.Gen.ReferenceIdeal.Frame
public import proofs.«01_k».proof.Proof.Spec
public import Idealize.ShloMosaic.Lib.Pointwise
public import Idealize.ShloMosaic.Lib.Pipeline.ValueKit

@[expose] public section

set_option maxRecDepth 16384

noncomputable section

namespace Cert.ReferenceIdeal.Hand

open Cert.ReferenceIdeal.Gen Cert.Quant
open Idealize.ShloMosaic Idealize.ShloMosaic.TcCoe
open Idealize.SL.Sem
open Idealize.ShloMosaic.Pipeline (Dat)

/-! ## The body's values -/

/-- The largest absolute value of each row. -/
def maxes {F : FTy → Type} [FloatOps F] (x : Vec F S24576x2048 .bf16) : FVec F S24576 .f32 :=
  multiReduction .maximumf [1] S24576 (absf (k0_pay4 x)) 0xFF800000#32 reduces_S24576x2048_S24576 (.inl rfl) rfl

/-- The same as a column, times the float32 nearest 1 / 448. -/
def ratios {F : FTy → Type} [FloatOps F] (M : FVec F S24576 .f32) : FVec F S24576x1 .f32 :=
  mulf (shapeCast S24576x1 M shapeCasts_S24576_S24576x1) (broadcast S24576x1 (Scalar.ofBits .f32 0x3B124925#32))

/-- The exponents of a column, by its logarithms. -/
def expos {F : FTy → Type} [FloatOps F] (q : FVec F S24576x1 .f32) : FVec F S24576x1 .f32 :=
  have lg : FVec F S24576x1 .f32 := divf (log q) (log (broadcast S24576x1 (Scalar.ofBits .f32 0x40000000#32)))
  have ge : IVec S24576x1 1 := cmpf .oge q (broadcast S24576x1 (Scalar.ofBits .f32 0x00800000#32))
  have lt : IVec S24576x1 1 := cmpf .olt q (broadcast S24576x1 (Scalar.ofBits .f32 0x7F800000#32))
  select (andi ge lt) (addf (floor lg) (broadcast S24576x1 (Scalar.ofBits .f32 0x3F800000#32)))
    (broadcast S24576x1 (Scalar.ofBits .f32 0x00000000#32))

/-- The powers of two of a column of exponents. -/
def powers {F : FTy → Type} [FloatOps F] (e : FVec F S24576x1 .f32) : FVec F S24576x1 .f32 :=
  have gt : IVec S24576x1 1 := cmpf .ogt e (broadcast S24576x1 (Scalar.ofBits .f32 0x42FE0000#32))
  have lt : IVec S24576x1 1 := cmpf .olt e (broadcast S24576x1 (Scalar.ofBits .f32 0xC2FC0000#32))
  select gt (broadcast S24576x1 (Scalar.ofBits .f32 0x7F800000#32))
    (select lt (broadcast S24576x1 (Scalar.ofBits .f32 0x00000000#32)) (exp2 e))

/-- The negated exponents. -/
def negs {F : FTy → Type} [FloatOps F] (e : FVec F S24576x1 .f32) : FVec F S24576x1 .f32 :=
  subf (broadcast S24576x1 (Scalar.ofBits .f32 0x00000000#32)) e

/-- The body's values in these names. -/
theorem pay5_eq {F : FTy → Type} [FloatOps F] (x : Vec F S24576x2048 .bf16) :
    k0_pay5 x = expos (ratios (maxes x)) := rfl
theorem pay6_eq {F : FTy → Type} [FloatOps F] (x : Vec F S24576x2048 .bf16) : k0_pay6 x = powers (k0_pay5 x) := rfl
theorem pay7_eq {F : FTy → Type} [FloatOps F] (x : Vec F S24576x2048 .bf16) :
    k0_pay7 x = powers (negs (k0_pay5 x)) := rfl

theorem maxes_apply (x : Vec Ideal S24576x2048 .bf16) (r : Fin 24576) : maxes x (ix1 r) = rowMax (row x r) := by
  pointwise [maxes, k0_pay4]
  unfold rowMax
  exact congrArg (fun g => Finset.fold max _ g Finset.univ) rfl

theorem ratios_apply (M : FVec Ideal S24576 .f32) (r : Fin 24576) :
    ratios M (ix2 r 0) = M (ix1 r) * Ideal.ofBits .f32 991054117#32 := by
  pointwise [ratios]

theorem expos_apply (q : FVec Ideal S24576x1 .f32) (r : Fin 24576) : expos q (ix2 r 0) = logExpo (q (ix2 r 0)) := by
  pointwise [expos]
  rfl

theorem powers_apply (e : FVec Ideal S24576x1 .f32) (r : Fin 24576) : powers e (ix2 r 0) = logPower (e (ix2 r 0)) := by
  pointwise [powers]
  rfl

theorem negs_apply (e : FVec Ideal S24576x1 .f32) (r : Fin 24576) : negs e (ix2 r 0) = 0 - e (ix2 r 0) := by
  pointwise [negs]

/-- The exponent of a row. -/
theorem pay5_apply (x : Vec Ideal S24576x2048 .bf16) (r : Fin 24576) :
    k0_pay5 x (ix2 r 0) = logExpo (rowQ (row x r)) := by
  rw [pay5_eq, expos_apply, ratios_apply, maxes_apply, rowQ]

/-- The scale of a row. -/
theorem pay6_apply (x : Vec Ideal S24576x2048 .bf16) (r : Fin 24576) : k0_pay6 x (ix2 r 0) = scaleOf (row x r) := by
  rw [pay6_eq, powers_apply, pay5_apply, scaleOf]

/-- The reciprocal of a row's scale. -/
theorem pay7_apply (x : Vec Ideal S24576x2048 .bf16) (r : Fin 24576) : k0_pay7 x (ix2 r 0) = invOf (row x r) := by
  rw [pay7_eq, powers_apply, negs_apply, pay5_apply, invOf]

/-- The activations, widened. -/
theorem pay4_apply (x : Vec Ideal S24576x2048 .bf16) (r : Fin 24576) (k : Fin 2048) : k0_pay4 x (ix2 r k) = row x r k := by
  pointwise [k0_pay4]
  rfl

/-- The cut to [-448, 448] of a product. -/
theorem cut_apply (v : FVec Ideal S24576x2048 .f32) (s : FVec Ideal S24576x1 .f32) (r : Fin 24576) (k : Fin 2048) :
    k0_pay1 v s (ix2 r k) = min (Ideal.ofBits .f32 1138753536#32)
      (max (Ideal.ofBits .f32 3286237184#32) (v (ix2 r k) * s (ix2 r 0))) := by
  pointwise [k0_pay1]

/-- The code of an entry. -/
theorem pay1_apply (x : Vec Ideal S24576x2048 .bf16) (r : Fin 24576) (k : Fin 2048) :
    k0_pay1 (k0_pay4 x) (k0_pay7 x) (ix2 r k) = codeOf (row x r) k := by
  rw [cut_apply, pay4_apply, pay7_apply, codeOf]

/-- The scaled product plus the residual. -/
theorem out_apply (v : FVec Ideal S24576x2048 .f32) (s i : FVec Ideal S24576x1 .f32) (w : Vec Ideal S2048x8192 .fp8e4m3)
    (ws : Vec Ideal S1x8192 .f32) (res : Vec Ideal S24576x8192 .bf16) (p : Fin 3072) (q : Fin 8) (l : Fin 8192) :
    k0_pay2 v s i w ws res (ix3 p q l)
      = (∑ k, k0_pay1 v i (ix2 ⟨p.val * 8 + q.val, by omega⟩ k) * w (ix2 k l))
          * s (ix2 ⟨p.val * 8 + q.val, by omega⟩ 0) * ws (ix2 0 l)
        + res (ix2 ⟨p.val * 8 + q.val, by omega⟩ l) := by
  pointwise [k0_pay2]

/-- The output entry by entry. -/
theorem pay2_apply (x : Vec Ideal S24576x2048 .bf16) (w : Vec Ideal S2048x8192 .fp8e4m3) (ws : Vec Ideal S1x8192 .f32)
    (res : Vec Ideal S24576x8192 .bf16) (p : Fin 3072) (q : Fin 8) (l : Fin 8192) :
    k0_pay2 (k0_pay4 x) (k0_pay6 x) (k0_pay7 x) w ws res (ix3 p q l) = outs x w ws res (ix3 p q l) := by
  rw [out_apply, pay6_apply]
  simp only [pay1_apply]
  rfl

/-- The scales in rows of 128. -/
theorem fold_apply (s : FVec Ideal S24576x1 .f32) (a : Fin 192) (b : Fin 128) :
    k0_pay3 s (ix2 a b) = s (ix2 ⟨a.val * 128 + b.val, by omega⟩ 0) := by
  pointwise [k0_pay3]

theorem pay3_apply (x : Vec Ideal S24576x2048 .bf16) (a : Fin 192) (b : Fin 128) :
    k0_pay3 (k0_pay6 x) (ix2 a b) = scales x (ix2 a b) := by
  rw [fold_apply, pay6_apply]
  rfl

/-! ## What the body leaves in the result buffers -/

theorem ld_x (x : Vec Ideal S24576x2048 .bf16) : View.ld x r0_0 = x := View.ld_unit_lit _ x (by decide)

/-- The body leaves the specified output, -/
theorem out4_eq (x : Vec Ideal S24576x2048 .bf16) (w : Vec Ideal S2048x8192 .fp8e4m3) (ws : Vec Ideal S1x8192 .f32)
    (res : Vec Ideal S24576x8192 .bf16) : out0_4 x w ws res = outs x w ws res := by
  frame_out
  unfold k0_pay8 k0_pay9 k0_pay10
  rw [ld_x]
  funext j
  rw [eq_ix3 j]
  exact pay2_apply x w ws res (j 0) (j 1) (j 2)

/-- the specified codes, -/
theorem out5_eq (x : Vec Ideal S24576x2048 .bf16) (w : Vec Ideal S2048x8192 .fp8e4m3) (ws : Vec Ideal S1x8192 .f32)
    (res : Vec Ideal S24576x8192 .bf16) : out0_5 x w ws res = codes x := by
  frame_out
  unfold k0_pay8 k0_pay10
  rw [ld_x]
  funext j
  rw [eq_ix2 j]
  exact pay1_apply x (j 0) (j 1)

/-- and the specified scales. -/
theorem out6_eq (x : Vec Ideal S24576x2048 .bf16) (w : Vec Ideal S2048x8192 .fp8e4m3) (ws : Vec Ideal S1x8192 .f32)
    (res : Vec Ideal S24576x8192 .bf16) : out0_6 x w ws res = scales x := by
  frame_out
  unfold k0_pay9
  rw [ld_x]
  funext j
  rw [eq_ix2 j]
  exact pay3_apply x (j 0) (j 1)

variable (m : (ℓ : Loc nD τ sig) → Buf (Elt Idealize.ShloMosaic.Ideal) ℓ) (ρ : Dev nD → PrngReg)

/-! ## The blocks: every window is its whole array -/

theorem index_x : ∀ t : Fin grid0.N, win0_0.index t = ![0, 0] := by decide +kernel
theorem index_w : ∀ t : Fin grid0.N, win0_1.index t = ![0, 0] := by decide +kernel
theorem index_ws : ∀ t : Fin grid0.N, win0_2.index t = ![0, 0] := by decide +kernel
theorem index_res : ∀ t : Fin grid0.N, win0_3.index t = ![0, 0] := by decide +kernel
theorem index_y : ∀ t : Fin grid0.N, win0_4.index t = ![0, 0, 0] := by decide +kernel
theorem index_codes : ∀ t : Fin grid0.N, win0_5.index t = ![0, 0] := by decide +kernel
theorem index_xs : ∀ t : Fin grid0.N, win0_6.index t = ![0, 0] := by decide +kernel

theorem iblk_x (c : Dev nD) (t : Fin grid0.N) : iblk m c 0 t = V m c main_v0 := by
  funext j; blk_ext [iblk, index_x t]
theorem iblk_w (c : Dev nD) (t : Fin grid0.N) : iblk m c 1 t = V m c main_arg1 := by
  funext j; blk_ext [iblk, index_w t]
theorem iblk_ws (c : Dev nD) (t : Fin grid0.N) : iblk m c 2 t = V m c main_v1 := by
  funext j; blk_ext [iblk, index_ws t]
theorem iblk_res (c : Dev nD) (t : Fin grid0.N) : iblk m c 3 t = V m c main_v2 := by
  funext j; blk_ext [iblk, index_res t]

/-! ## The final arrays -/

/-- The window of the output leaves the specified array. -/
theorem arr_y (c : Dev nD) : (dats m 0 c).arrAt 4 cfg0.N
    = outs (V m c main_v0) (V m c main_arg1) (V m c main_v1) (V m c main_v2) := by
  refine (dats m 0 c).arrAt_eq_of_covers 4 _ (by decide +kernel) fun t hf y => ?_
  blk_simp
  rw [after0_4, out4_eq, iblk_x, iblk_w, iblk_ws, iblk_res]
  blk_ext [index_y t]

/-- The window of the codes leaves the specified array. -/
theorem arr_codes (c : Dev nD) : (dats m 0 c).arrAt 5 cfg0.N
    = codes (V m c main_v0) := by
  refine (dats m 0 c).arrAt_eq_of_covers 5 _ (by decide +kernel) fun t hf y => ?_
  blk_simp
  rw [after0_5, out5_eq, iblk_x]
  blk_ext [index_codes t]

/-- The window of the scales leaves the specified array. -/
theorem arr_xs (c : Dev nD) : (dats m 0 c).arrAt 6 cfg0.N
    = scales (V m c main_v0) := by
  refine (dats m 0 c).arrAt_eq_of_covers 6 _ (by decide +kernel) fun t hf y => ?_
  blk_simp
  rw [after0_6, out6_eq, iblk_x]
  blk_ext [index_xs t]

/-! ## The operands, as the arguments hold them -/

/-- The activations are the first argument, its rows in one run. -/
theorem operand_x (c : Dev nD) (r : Fin 24576) (k : Fin 2048) :
    V m c main_v0 (ix2 r k) = m ((c.tc : Thread nD τ).loc main_arg0)
      (ix3 ⟨r.val / 8192, by omega⟩ ⟨r.val % 8192, by omega⟩ k) := by
  entry_read
  pointwise

/-- The scales of the weights are the third argument. -/
theorem operand_ws (c : Dev nD) (l : Fin 8192) :
    V m c main_v1 (ix2 0 l) = m ((c.tc : Thread nD τ).loc main_arg2) (ix1 l) := by
  entry_read
  pointwise

/-- The residual is the fourth argument, its rows in one run. -/
theorem operand_res (c : Dev nD) (r : Fin 24576) (l : Fin 8192) :
    V m c main_v2 (ix2 r l) = m ((c.tc : Thread nD τ).loc main_arg3)
      (ix3 ⟨r.val / 8192, by omega⟩ ⟨r.val % 8192, by omega⟩ l) := by
  entry_read
  pointwise

/-! ## The run -/

/-- After the reference's run, its three results are the specified arrays of the operands, and the
arguments are as they were. -/
theorem values : θ_run defs (onTc (τ := τ) (main (F := Idealize.ShloMosaic.Ideal))) ⟨m, fun _ => 0, ρ⟩ (fun r => ∀ c : Dev nD,
      r.2.mem ((c.tc : Thread nD τ).loc main_v3_0)
        = outs (V m c main_v0) (V m c main_arg1) (V m c main_v1) (V m c main_v2)
      ∧ r.2.mem ((c.tc : Thread nD τ).loc main_v3_1) = codes (V m c main_v0)
      ∧ r.2.mem ((c.tc : Thread nD τ).loc main_v3_2) = scales (V m c main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1.out_eq c 4).trans (arr_y m c), (h.1.out_eq c 5).trans (arr_codes m c),
    (h.1.out_eq c 6).trans (arr_xs m c), h.2 c⟩) (θ_run_and (run_main m ρ) (unchanged m ρ))

end Cert.ReferenceIdeal.Hand

end
-- ==== Proof.Algebraic.lean ====
/- The kernel and the reference end with the same results. -/
module

public import proofs.«01_k».proof.Defs
public import proofs.«01_k».proof.Proof.KernelValue
public import proofs.«01_k».proof.Proof.ReferenceValue

@[expose] public section

set_option maxRecDepth 16384

noncomputable section

namespace Cert.Hand

open Idealize.ShloMosaic Idealize.ShloMosaic.TcCoe
open Idealize.SL.Sem

variable (m : (ℓ : Loc Cert.KernelIdeal.nD Cert.KernelIdeal.τ Cert.KernelIdeal.sig) → Buf (Elt Idealize.ShloMosaic.Ideal) ℓ)
  (m' : (ℓ : Loc Cert.ReferenceIdeal.nD Cert.ReferenceIdeal.τ Cert.ReferenceIdeal.sig) → Buf (Elt Idealize.ShloMosaic.Ideal) ℓ)

/-- The arguments of the two programs are the same on core `c`. -/
def Agree (c : Dev Cert.KernelIdeal.nD) : Prop :=
  m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)

/-- Both programs flatten the activations alike, -/
theorem same_x (c : Dev Cert.KernelIdeal.nD) (h : Agree m m' c) :
    Cert.ReferenceIdeal.Gen.V m' c Cert.ReferenceIdeal.main_v0 = Cert.KernelIdeal.Gen.V m c Cert.KernelIdeal.main_v0 := by
  funext j
  rw [eq_ix2 j]
  exact (Cert.ReferenceIdeal.Hand.operand_x m' c (j 0) (j 1)).trans
    ((congrFun h.1 _).trans (Cert.KernelIdeal.Hand.operand_x m c (j 0) (j 1)).symm)

/-- take the weights as they are, -/
theorem same_w (c : Dev Cert.KernelIdeal.nD) (h : Agree m m' c) :
    Cert.ReferenceIdeal.Gen.V m' c Cert.ReferenceIdeal.main_arg1 = Cert.KernelIdeal.Gen.V m c Cert.KernelIdeal.main_arg1 :=
  (Cert.ReferenceIdeal.Gen.V_main_arg1 m' c).trans (h.2.1.trans (Cert.KernelIdeal.Gen.V_main_arg1 m c).symm)

/-- lay the weights' scales out alike, -/
theorem same_ws (c : Dev Cert.KernelIdeal.nD) (h : Agree m m' c) :
    Cert.ReferenceIdeal.Gen.V m' c Cert.ReferenceIdeal.main_v1 = Cert.KernelIdeal.Gen.V m c Cert.KernelIdeal.main_v1 := by
  funext j
  have e : j = ix2 (0 : Fin 1) (j 1) := (eq_ix2 j).trans (congrArg (fun a : Fin 1 => ix2 a (j 1)) (Subsingleton.elim (α := Fin 1) (j 0) 0))
  rw [e]
  exact (Cert.ReferenceIdeal.Hand.operand_ws m' c (j 1)).trans
    ((congrFun h.2.2.1 _).trans (Cert.KernelIdeal.Hand.operand_ws m c (j 1)).symm)

/-- and flatten the residual alike. -/
theorem same_res (c : Dev Cert.KernelIdeal.nD) (h : Agree m m' c) :
    Cert.ReferenceIdeal.Gen.V m' c Cert.ReferenceIdeal.main_v2 = Cert.KernelIdeal.Gen.V m c Cert.KernelIdeal.main_v2 := by
  funext j
  rw [eq_ix2 j]
  exact (Cert.ReferenceIdeal.Hand.operand_res m' c (j 0) (j 1)).trans
    ((congrFun h.2.2.2 _).trans (Cert.KernelIdeal.Hand.operand_res m c (j 0) (j 1)).symm)

/-- The kernel's three results are the reference's. -/
theorem algebraic [hK : Cert.KernelIdeal.Facts] [hR : Cert.ReferenceIdeal.Facts] :
    Cert.algebraic_KernelIdeal_ReferenceIdeal := by
  intro m g m' g' _ hagree
  refine ⟨_, _, _, Cert.KernelIdeal.Hand.values m g, ?_⟩
  refine (θ_run _ _ _).mono (fun r h c => ?_) (Cert.ReferenceIdeal.Hand.values m' g')
  have e : Agree m m' c := hagree c
  have hc := h c
  rw [same_x m m' c e, same_w m m' c e, same_ws m m' c e, same_res m m' c e] at hc
  exact hc

end Cert.Hand

end
-- ==== Proof.lean ====
module
public import proofs.«01_k».proof.Defs
public import proofs.«01_k».proof.Proof.BitsFrame
public import proofs.«01_k».proof.Proof.KernelRun
public import proofs.«01_k».proof.Proof.Algebraic
public import proofs.«01_k».proof.Proof.Gen.ReferenceIdeal.Frame
/-- The claims of the file. -/
public theorem Cert.Proof.claim : Cert.Claim :=
  ⟨Cert.Kernel.Gen.facts, Cert.KernelIdeal.Gen.facts, Cert.ReferenceIdeal.Gen.facts,
    fun m ρ _ => Cert.Kernel.Hand.frame m ρ, fun m ρ _ => Cert.KernelIdeal.Hand.frame m ρ, fun m ρ _ => Cert.ReferenceIdeal.Gen.frame m ρ, trivial,
    Cert.Hand.algebraic⟩
